-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_of_bits [hPre_mask_of_bits : Cert.Pre_mask_of_bits.Facts] (m : (ℓ : Loc Cert.KernelIdeal.nD Cert.KernelIdeal.τ Cert.KernelIdeal.sig) → Buf (Elt Ideal) ℓ) : Prop :=
  ∀ c : Dev Cert.KernelIdeal.nD,
    (Cert.Pre_mask_of_bits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_of_bits [hPre_mask_of_bits : Cert.Pre_mask_of_bits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_of_bits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_mask_of_bits [hKernelIdeal : Cert.KernelIdeal.Facts] [hPre_mask_of_bits : Cert.Pre_mask_of_bits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_of_bits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_mask_of_bits [hReferenceIdeal : Cert.ReferenceIdeal.Facts] [hPre_mask_of_bits : Cert.Pre_mask_of_bits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_of_bits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_mask_of_bits [hKernelIdeal : Cert.KernelIdeal.Facts] [hReferenceIdeal : Cert.ReferenceIdeal.Facts] [hPre_mask_of_bits : Cert.Pre_mask_of_bits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_of_bits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_mask_of_bits : Cert.Pre_mask_of_bits.Facts),
    quiescent_Kernel (hKernel := hKernel)
    ∧ quiescent_KernelIdeal (hKernelIdeal := hKernelIdeal)
    ∧ quiescent_KernelIdeal_pre_mask_of_bits (hKernelIdeal := hKernelIdeal) (hPre_mask_of_bits := hPre_mask_of_bits)
    ∧ quiescent_ReferenceIdeal (hReferenceIdeal := hReferenceIdeal)
    ∧ quiescent_ReferenceIdeal_pre_mask_of_bits (hReferenceIdeal := hReferenceIdeal) (hPre_mask_of_bits := hPre_mask_of_bits)
    ∧ preserves_Kernel_KernelIdeal
    ∧ algebraic_KernelIdeal_ReferenceIdeal_pre_mask_of_bits (hKernelIdeal := hKernelIdeal) (hReferenceIdeal := hReferenceIdeal) (hPre_mask_of_bits := hPre_mask_of_bits)
-- ==== Pre_mask_of_bits.lean ====
abbrev S8x512x512 : Shape := ⟨3, ![8, 512, 512]⟩
abbrev S8x1x512x512 : Shape := ⟨4, ![8, 1, 512, 512]⟩
abbrev S_ : Shape := ⟨0, ![]⟩

class Facts : Prop where
  bcast_S_S8x512x512 : S_.BroadcastsInDim S8x512x512 (![] : Fin 0 → Fin S8x512x512.rank)
  shapeCasts_S8x1x512x512_S8x512x512 : S8x1x512x512.ShapeCasts S8x512x512

variable [Facts]

def fn {F : FTy → Type} [FloatOps F] (main_arg0 : FVec F S8x512x512 .f32) (main_arg1 : FVec F S8x1x512x512 .f32) (main_arg2 : FVec F S8x512x512 .f32) : IVec S8x512x512 1 :=
  let main_cst : FVec F S_ .f32 := constant S_ .f32 0x00000000#32
  let main_v0 : FVec F S8x512x512 .f32 := broadcastInDim S8x512x512 ![] bcast_S_S8x512x512 main_cst
  let main_v1 : IVec S8x512x512 1 := cmpf .oeq main_arg2 main_v0
  let main_cst_0 : FVec F S_ .f32 := constant S_ .f32 0x3F800000#32
  let main_v2 : FVec F S8x512x512 .f32 := broadcastInDim S8x512x512 ![] bcast_S_S8x512x512 main_cst_0
  let main_v3 : IVec S8x512x512 1 := cmpf .oeq main_arg2 main_v2
  let main_v4 : IVec S8x512x512 1 := ori main_v1 main_v3
  let main_v5 : FVec F S8x512x512 .f32 := shapeCast S8x512x512 main_arg1 shapeCasts_S8x1x512x512_S8x512x512
  let main_cst_1 : FVec F S_ .f32 := constant S_ .f32 0x4B800000#32
  let main_v6 : FVec F S8x512x512 .f32 := broadcastInDim S8x512x512 ![] bcast_S_S8x512x512 main_cst_1
  let main_v7 : IVec S8x512x512 1 := cmpf .ole main_v5 main_v6
  let main_v8 : IVec S8x512x512 1 := andi main_v4 main_v7
  let main_v9 : FVec F S8x512x512 .f32 := shapeCast S8x512x512 main_arg1 shapeCasts_S8x1x512x512_S8x512x512
  let main_cst_2 : FVec F S_ .f32 := constant S_ .f32 0xCB800000#32
  let main_v10 : FVec F S8x512x512 .f32 := broadcastInDim S8x512x512 ![] bcast_S_S8x512x512 main_cst_2
  let main_v11 : IVec S8x512x512 1 := cmpf .oge main_v9 main_v10
  let main_v12 : IVec S8x512x512 1 := andi main_v8 main_v11
  main_v12
-- ==== Kernel.lean ====
abbrev S8x512x512 : Shape := ⟨3, ![8, 512, 512]⟩
abbrev S8x1x512x512 : Shape := ⟨4, ![8, 1, 512, 512]⟩
abbrev S1x1 : Shape := ⟨2, ![1, 1]⟩
abbrev S1x512x512 : Shape := ⟨3, ![1, 512, 512]⟩
abbrev S512x512 : Shape := ⟨2, ![512, 512]⟩
abbrev S512x128 : Shape := ⟨2, ![512, 128]⟩
abbrev S512x640 : Shape := ⟨2, ![512, 640]⟩
abbrev S512x639 : Shape := ⟨2, ![512, 639]⟩
abbrev S512x1 : Shape := ⟨2, ![512, 1]⟩
abbrev S512x638 : Shape := ⟨2, ![512, 638]⟩
abbrev S512x2 : Shape := ⟨2, ![512, 2]⟩
abbrev S512x637 : Shape := ⟨2, ![512, 637]⟩
abbrev S512x3 : Shape := ⟨2, ![512, 3]⟩
abbrev S512x636 : Shape := ⟨2, ![512, 636]⟩
abbrev S512x4 : Shape := ⟨2, ![512, 4]⟩
abbrev S512x635 : Shape := ⟨2, ![512, 635]⟩
abbrev S512x5 : Shape := ⟨2, ![512, 5]⟩
abbrev S512x634 : Shape := ⟨2, ![512, 634]⟩
abbrev S512x6 : Shape := ⟨2, ![512, 6]⟩
abbrev S512x633 : Shape := ⟨2, ![512, 633]⟩
abbrev S512x7 : Shape := ⟨2, ![512, 7]⟩
abbrev S512x632 : Shape := ⟨2, ![512, 632]⟩
abbrev S512x8 : Shape := ⟨2, ![512, 8]⟩
abbrev S512x631 : Shape := ⟨2, ![512, 631]⟩
abbrev S512x9 : Shape := ⟨2, ![512, 9]⟩
abbrev S512x630 : Shape := ⟨2, ![512, 630]⟩
abbrev S512x10 : Shape := ⟨2, ![512, 10]⟩
abbrev S512x629 : Shape := ⟨2, ![512, 629]⟩
abbrev S512x11 : Shape := ⟨2, ![512, 11]⟩
abbrev S512x628 : Shape := ⟨2, ![512, 628]⟩
abbrev S512x12 : Shape := ⟨2, ![512, 12]⟩
abbrev S512x627 : Shape := ⟨2, ![512, 627]⟩
abbrev S512x13 : Shape := ⟨2, ![512, 13]⟩
abbrev S512x626 : Shape := ⟨2, ![512, 626]⟩
abbrev S512x14 : Shape := ⟨2, ![512, 14]⟩
abbrev S512x625 : Shape := ⟨2, ![512, 625]⟩
abbrev S512x15 : Shape := ⟨2, ![512, 15]⟩
abbrev S512x624 : Shape := ⟨2, ![512, 624]⟩
abbrev S512x16 : Shape := ⟨2, ![512, 16]⟩
abbrev S512x623 : Shape := ⟨2, ![512, 623]⟩
abbrev S512x17 : Shape := ⟨2, ![512, 17]⟩
abbrev S512x622 : Shape := ⟨2, ![512, 622]⟩
abbrev S512x18 : Shape := ⟨2, ![512, 18]⟩
abbrev S512x621 : Shape := ⟨2, ![512, 621]⟩
abbrev S512x19 : Shape := ⟨2, ![512, 19]⟩
abbrev S512x620 : Shape := ⟨2, ![512, 620]⟩
abbrev S512x20 : Shape := ⟨2, ![512, 20]⟩
abbrev S512x619 : Shape := ⟨2, ![512, 619]⟩
abbrev S512x21 : Shape := ⟨2, ![512, 21]⟩
abbrev S512x618 : Shape := ⟨2, ![512, 618]⟩
abbrev S512x22 : Shape := ⟨2, ![512, 22]⟩
abbrev S512x617 : Shape := ⟨2, ![512, 617]⟩
abbrev S512x23 : Shape := ⟨2, ![512, 23]⟩
abbrev S512x616 : Shape := ⟨2, ![512, 616]⟩
abbrev S512x24 : Shape := ⟨2, ![512, 24]⟩
abbrev S512x615 : Shape := ⟨2, ![512, 615]⟩
abbrev S512x25 : Shape := ⟨2, ![512, 25]⟩
abbrev S512x614 : Shape := ⟨2, ![512, 614]⟩
abbrev S512x26 : Shape := ⟨2, ![512, 26]⟩
abbrev S512x613 : Shape := ⟨2, ![512, 613]⟩
abbrev S512x27 : Shape := ⟨2, ![512, 27]⟩
abbrev S512x612 : Shape := ⟨2, ![512, 612]⟩
abbrev S512x28 : Shape := ⟨2, ![512, 28]⟩
abbrev S512x611 : Shape := ⟨2, ![512, 611]⟩
abbrev S512x29 : Shape := ⟨2, ![512, 29]⟩
abbrev S512 : Shape := ⟨1, ![512]⟩
abbrev S1x512 : Shape := ⟨2, ![1, 512]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S8x512x512, .f32⟩
  | .hbm, ⟨1, _⟩ => ⟨S8x1x512x512, .f32⟩
  | .hbm, ⟨2, _⟩ => ⟨S8x512x512, .f32⟩
  | .hbm, ⟨3, _⟩ => ⟨S8x512x512, .f32⟩
  | .hbm, ⟨4, _⟩ => ⟨S1x1, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x1, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_411 : BitVec 32 := 7#32
  let v1466 : BitVec 1 := Scalar.cmpi .eq arg0 c7_i32_411
  let v1467 : BitVec 32 := Scalar.extui v1466
  let c0_i32_412 : BitVec 32 := 0#32
  let v1468 : BitVec 1 := Scalar.cmpi .ne v1467 c0_i32_412
  v1468

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8x512x512 : Shape := ⟨3, ![8, 512, 512]⟩
abbrev S8x1x512x512 : Shape := ⟨4, ![8, 1, 512, 512]⟩
abbrev S512 : Shape := ⟨1, ![512]⟩
abbrev S1x512 : Shape := ⟨2, ![1, 512]⟩
abbrev S29 : Shape := ⟨1, ![29]⟩
abbrev S_ : Shape := ⟨0, ![]⟩
abbrev S29x1 : Shape := ⟨2, ![29, 1]⟩
abbrev S29x512 : Shape := ⟨2, ![29, 512]⟩
abbrev S8x512x541 : Shape := ⟨3, ![8, 512, 541]⟩
abbrev S29x512x1 : Shape := ⟨3, ![29, 512, 1]⟩
abbrev S8x512x29x512 : Shape := ⟨4, ![8, 512, 29, 512]⟩
abbrev S8x512x1x512 : Shape := ⟨4, ![8, 512, 1, 512]⟩
abbrev S8x1x512 : Shape := ⟨3, ![8, 1, 512]⟩
abbrev S8x1x1x512 : Shape := ⟨4, ![8, 1, 1, 512]⟩
abbrev S8x1x512x1 : Shape := ⟨4, ![8, 1, 512, 1]⟩
abbrev S1x8x512x512 : Shape := ⟨4, ![1, 8, 512, 512]⟩
abbrev S8x8x512x512 : Shape := ⟨4, ![8, 8, 512, 512]⟩
abbrev S1x1 : Shape := ⟨2, ![1, 1]⟩

abbrev nBuf : Space → Nat
  | .hbm => 161
  | .vmem => 0
  | .smem => 0
  | _ => 0

abbrev hbmTy0_0 (i : Nat) : BufTy := match i % 128 with
  | 0 => ⟨S8x512x512, .f32⟩
  | 1 => ⟨S8x1x512x512, .f32⟩
  | 2 => ⟨S8x512x512, .f32⟩
  | 3 => ⟨S8x1x512x512, .f32⟩
  | 4 => ⟨S512, .i32⟩
  | 5 => ⟨S1x512, .i32⟩
  | 6 => ⟨S29, .i32⟩
  | 7 => ⟨S_, .i32⟩
  | 8 => ⟨S29, .i32⟩
  | 9 => ⟨S29, .i32⟩
  | 10 => ⟨S29x1, .i32⟩
  | 11 => ⟨S29x512, .i32⟩
  | 12 => ⟨S29x512, .i32⟩
  | 13 => ⟨S29x512, .i32⟩
  | 14 => ⟨S8x512x512, .f32⟩
  | 15 => ⟨S_, .i32⟩
  | 16 => ⟨S_, .f32⟩
  | 17 => ⟨S8x512x541, .f32⟩
  | 18 => ⟨S_, .i32⟩
  | 19 => ⟨S29x512, .i32⟩
  | 20 => ⟨S29x512, .i1⟩
  | 21 => ⟨S_, .i32⟩
  | 22 => ⟨S29x512, .i32⟩
  | 23 => ⟨S29x512, .i32⟩
  | 24 => ⟨S29x512, .i32⟩
  | 25 => ⟨S29x512x1, .i32⟩
  | 26 => ⟨S8x512x29x512, .f32⟩
  | 27 => ⟨S_, .i32⟩
  | 28 => ⟨S_, .f32⟩
  | 29 => ⟨S8x512x541, .f32⟩
  | 30 => ⟨S_, .i32⟩
  | 31 => ⟨S29x512, .i32⟩
  | 32 => ⟨S29x512, .i1⟩
  | 33 => ⟨S_, .i32⟩
  | 34 => ⟨S29x512, .i32⟩
  | 35 => ⟨S29x512, .i32⟩
  | 36 => ⟨S29x512, .i32⟩
  | 37 => ⟨S29x512x1, .i32⟩
  | 38 => ⟨S8x512x29x512, .f32⟩
  | 39 => ⟨S8x512x1x512, .f32⟩
  | 40 => ⟨S8x512x29x512, .f32⟩
  | 41 => ⟨S8x512x29x512, .f32⟩
  | 42 => ⟨S8x512x512, .f32⟩
  | 43 => ⟨S8x512x1x512, .f32⟩
  | 44 => ⟨S8x512x29x512, .f32⟩
  | 45 => ⟨S8x512x29x512, .f32⟩
  | 46 => ⟨S8x512x29x512, .f32⟩
  | 47 => ⟨S_, .f32⟩
  | 48 => ⟨S8x512x29x512, .f32⟩
  | 49 => ⟨S8x512x29x512, .i1⟩
  | 50 => ⟨S8x512x29x512, .f32⟩
  | 51 => ⟨S_, .f32⟩
  | 52 => ⟨S_, .f32⟩
  | 53 => ⟨S8x1x512x512, .f32⟩
  | 54 => ⟨S8x1x512x512, .f32⟩
  | 55 => ⟨S_, .f32⟩
  | 56 => ⟨S8x1x512x512, .f32⟩
  | 57 => ⟨S8x1x512x512, .i1⟩
  | 58 => ⟨S8x1x512x512, .i32⟩
  | 59 => ⟨S_, .i32⟩
  | 60 => ⟨S8x1x512, .i32⟩
  | 61 => ⟨S8x1x1x512, .i32⟩
  | 62 => ⟨S_, .f32⟩
  | 63 => ⟨S8x1x512x512, .f32⟩
  | 64 => ⟨S8x1x512x512, .i1⟩
  | 65 => ⟨S_, .f32⟩
  | 66 => ⟨S_, .f32⟩
  | 67 => ⟨S8x1x512x512, .f32⟩
  | 68 => ⟨S8x1x512x512, .f32⟩
  | 69 => ⟨S8x1x512x512, .f32⟩
  | 70 => ⟨S_, .i32⟩
  | 71 => ⟨S8x1x1x512, .i32⟩
  | 72 => ⟨S8x1x1x512, .i32⟩
  | 73 => ⟨S_, .i32⟩
  | 74 => ⟨S8x1x1x512, .i32⟩
  | 75 => ⟨S8x1x1x512, .i32⟩
  | 76 => ⟨S_, .i32⟩
  | 77 => ⟨S_, .i32⟩
  | 78 => ⟨S8x1x1x512, .i32⟩
  | 79 => ⟨S8x1x1x512, .i32⟩
  | 80 => ⟨S8x1x1x512, .i32⟩
  | 81 => ⟨S_, .i32⟩
  | 82 => ⟨S8x1x1x512, .i32⟩
  | 83 => ⟨S8x1x1x512, .i1⟩
  | 84 => ⟨S8x1x1x512, .i32⟩
  | 85 => ⟨S8x1x1x512, .i32⟩
  | 86 => ⟨S_, .i32⟩
  | 87 => ⟨S8x1x1x512, .i32⟩
  | 88 => ⟨S8x1x1x512, .i1⟩
  | 89 => ⟨S8x1x1x512, .i1⟩
  | 90 => ⟨S_, .i32⟩
  | 91 => ⟨S8x1x1x512, .i32⟩
  | 92 => ⟨S8x1x1x512, .i32⟩
  | 93 => ⟨S8x1x1x512, .i32⟩
  | 94 => ⟨S_, .i32⟩
  | 95 => ⟨S8x1x1x512, .i32⟩
  | 96 => ⟨S8x1x1x512, .i1⟩
  | 97 => ⟨S_, .i32⟩
  | 98 => ⟨S8x1x1x512, .i32⟩
  | 99 => ⟨S8x1x1x512, .i32⟩
  | 100 => ⟨S8x1x1x512, .i32⟩
  | 101 => ⟨S8x1x512x1, .i32⟩
  | 102 => ⟨S8x1x1x512, .f32⟩
  | 103 => ⟨S_, .i32⟩
  | 104 => ⟨S_, .i32⟩
  | 105 => ⟨S8x1x1x512, .i32⟩
  | 106 => ⟨S8x1x1x512, .i32⟩
  | 107 => ⟨S8x1x1x512, .i32⟩
  | 108 => ⟨S_, .i32⟩
  | 109 => ⟨S8x1x1x512, .i32⟩
  | 110 => ⟨S8x1x1x512, .i1⟩
  | 111 => ⟨S8x1x1x512, .i32⟩
  | 112 => ⟨S8x1x1x512, .i32⟩
  | 113 => ⟨S_, .i32⟩
  | 114 => ⟨S8x1x1x512, .i32⟩
  | 115 => ⟨S8x1x1x512, .i1⟩
  | 116 => ⟨S8x1x1x512, .i1⟩
  | 117 => ⟨S_, .i32⟩
  | 118 => ⟨S8x1x1x512, .i32⟩
  | 119 => ⟨S8x1x1x512, .i32⟩
  | 120 => ⟨S8x1x1x512, .i32⟩
  | 121 => ⟨S_, .i32⟩
  | 122 => ⟨S8x1x1x512, .i32⟩
  | 123 => ⟨S8x1x1x512, .i1⟩
  | 124 => ⟨S_, .i32⟩
  | 125 => ⟨S8x1x1x512, .i32⟩
  | 126 => ⟨S8x1x1x512, .i32⟩
  | 127 => ⟨S8x1x1x512, .i32⟩
  | _ => ⟨S8x512x512, .f32⟩

abbrev hbmTy0_1 (i : Nat) : BufTy := match i % 128 with
  | 0 => ⟨S8x1x512x1, .i32⟩
  | 1 => ⟨S8x1x1x512, .f32⟩
  | 2 => ⟨S_, .i32⟩
  | 3 => ⟨S8x1x1x512, .i32⟩
  | 4 => ⟨S8x1x1x512, .i1⟩
  | 5 => ⟨S8x1x1x512, .f32⟩
  | 6 => ⟨S_, .f32⟩
  | 7 => ⟨S8x1x1x512, .f32⟩
  | 8 => ⟨S8x1x1x512, .f32⟩
  | 9 => ⟨S_, .f32⟩
  | 10 => ⟨S_, .f32⟩
  | 11 => ⟨S8x1x1x512, .f32⟩
  | 12 => ⟨S8x1x1x512, .f32⟩
  | 13 => ⟨S8x1x512x512, .f32⟩
  | 14 => ⟨S8x1x512x512, .f32⟩
  | 15 => ⟨S1x8x512x512, .f32⟩
  | 16 => ⟨S8x8x512x512, .f32⟩
  | 17 => ⟨S8x8x512x512, .f32⟩
  | 18 => ⟨S8x8x512x512, .f32⟩
  | 19 => ⟨S_, .f32⟩
  | 20 => ⟨S8x8x512x512, .f32⟩
  | 21 => ⟨S8x8x512x512, .i1⟩
  | 22 => ⟨S8x8x512x512, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S1x1, .f32⟩
  | _ => ⟨S8x512x512, .f32⟩

abbrev hbmTy (i : Nat) : BufTy := match i / 128 with
  | 0 => hbmTy0_0 i
  | 1 => hbmTy0_1 i
  | _ => ⟨S8x512x512, .f32⟩

abbrev bufTy : (tb : Table) → Fin (tcTables nBuf tb) → BufTy
  | .hbm, ⟨i, _⟩ => hbmTy i
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_call2_v0 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v48 : Ref sig .tc := ⟨.hbm, 68, rfl⟩
abbrev main_v49 : Ref sig .tc := ⟨.hbm, 69, rfl⟩
abbrev main_c_11 : Ref sig .tc := ⟨.hbm, 70, rfl⟩
abbrev main_v50 : Ref sig .tc := ⟨.hbm, 71, rfl⟩
abbrev main_v51 : Ref sig .tc := ⟨.hbm, 72, rfl⟩
abbrev main_c_12 : Ref sig .tc := ⟨.hbm, 73, rfl⟩
abbrev main_v52 : Ref sig .tc := ⟨.hbm, 74, rfl⟩
abbrev main_v53 : Ref sig .tc := ⟨.hbm, 75, rfl⟩
abbrev main_c_13 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_v5 : Ref sig .tc := ⟨.hbm, 82, rfl⟩
abbrev main_call5_v6 : Ref sig .tc := ⟨.hbm, 83, rfl⟩
abbrev main_call5_v7 : Ref sig .tc := ⟨.hbm, 84, rfl⟩
abbrev main_call5_v8 : Ref sig .tc := ⟨.hbm, 85, rfl⟩
abbrev main_call5_c : Ref sig .tc := ⟨.hbm, 86, rfl⟩
abbrev main_call5_v9 : Ref sig .tc := ⟨.hbm, 87, rfl⟩
abbrev main_call5_v10 : Ref sig .tc := ⟨.hbm, 88, rfl⟩
abbrev main_call5_v11 : Ref sig .tc := ⟨.hbm, 89, rfl⟩
abbrev main_call5_c_0 : Ref sig .tc := ⟨.hbm, 90, rfl⟩
abbrev main_call5_v12 : Ref sig .tc := ⟨.hbm, 91, rfl⟩
abbrev main_call5_v13 : Ref sig .tc := ⟨.hbm, 92, rfl⟩
abbrev main_v54 : Ref sig .tc := ⟨.hbm, 93, rfl⟩
abbrev main_call6_c : Ref sig .tc := ⟨.hbm, 94, rfl⟩
abbrev main_call6_v0 : Ref sig .tc := ⟨.hbm, 95, rfl⟩
abbrev main_call6_v1 : Ref sig .tc := ⟨.hbm, 96, rfl⟩
abbrev main_call6_c_0 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_call6_v5 : Ref sig .tc := ⟨.hbm, 101, rfl⟩
abbrev main_v55 : Ref sig .tc := ⟨.hbm, 102, rfl⟩
abbrev main_c_14 : Ref sig .tc := ⟨.hbm, 103, rfl⟩
abbrev main_call7_v0 : Ref sig .tc := ⟨.hbm, 104, rfl⟩
abbrev main_call7_v1 : Ref sig .tc := ⟨.hbm, 105, rfl⟩
abbrev main_call7_v2 : Ref sig .tc := ⟨.hbm, 106, rfl⟩
abbrev main_call7_v3 : Ref sig .tc := ⟨.hbm, 107, rfl⟩
abbrev main_call7_v4 : Ref sig .tc := ⟨.hbm, 108, rfl⟩
abbrev main_call7_v5 : Ref sig .tc := ⟨.hbm, 109, rfl⟩
abbrev main_call7_v6 : Ref sig .tc := ⟨.hbm, 110, rfl⟩
abbrev main_call7_v7 : Ref sig .tc := ⟨.hbm, 111, rfl⟩
abbrev main_call7_v8 : Ref sig .tc := ⟨.hbm, 112, rfl⟩
abbrev main_call7_c : Ref sig .tc := ⟨.hbm, 113, rfl⟩
abbrev main_call7_v9 : Ref sig .tc := ⟨.hbm, 114, rfl⟩
abbrev main_call7_v10 : Ref sig .tc := ⟨.hbm, 115, rfl⟩
abbrev main_call7_v11 : Ref sig .tc := ⟨.hbm, 116, rfl⟩
abbrev main_call7_c_0 : Ref sig .tc := ⟨.hbm, 117, rfl⟩
abbrev main_call7_v12 : Ref sig .tc := ⟨.hbm, 118, rfl⟩
abbrev main_call7_v13 : Ref sig .tc := ⟨.hbm, 119, rfl⟩
abbrev main_v56 : Ref sig .tc := ⟨.hbm, 120, rfl⟩
abbrev main_call8_c : Ref sig .tc := ⟨.hbm, 121, rfl⟩
abbrev main_call8_v0 : Ref sig .tc := ⟨.hbm, 122, rfl⟩
abbrev main_call8_v1 : Ref sig .tc := ⟨.hbm, 123, rfl⟩
abbrev main_call8_c_0 : Ref sig .tc := ⟨.hbm, 124, rfl⟩
abbrev main_call8_v2 : Ref sig .tc := ⟨.hbm, 125, rfl⟩
abbrev main_call8_v3 : Ref sig .tc := ⟨.hbm, 126, rfl⟩
abbrev main_call8_v4 : Ref sig .tc := ⟨.hbm, 127, rfl⟩
abbrev main_call8_v5 : Ref sig .tc := ⟨.hbm, 128, rfl⟩
abbrev main_v57 : Ref sig .tc := ⟨.hbm, 129, rfl⟩
abbrev main_c_15 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_cst_16 : Ref sig .tc := ⟨.hbm, 134, rfl⟩
abbrev main_v61 : Ref sig .tc := ⟨.hbm, 135, rfl⟩
abbrev main_v62 : Ref sig .tc := ⟨.hbm, 136, rfl⟩
abbrev main_cst_17 : Ref sig .tc := ⟨.hbm, 137, rfl⟩
abbrev main_call9_v0 : Ref sig .tc := ⟨.hbm, 138, rfl⟩
abbrev main_call9_v1 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_cst_18 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_cst_19 : Ref sig .tc := ⟨.hbm, 151, rfl⟩
abbrev main_v73 : Ref sig .tc := ⟨.hbm, 152, rfl⟩
abbrev main_cst_20 : Ref sig .tc := ⟨.hbm, 153, rfl⟩
abbrev main_v74 : Ref sig .tc := ⟨.hbm, 154, rfl⟩
abbrev main_cst_21 : Ref sig .tc := ⟨.hbm, 155, rfl⟩
abbrev main_v75 : Ref sig .tc := ⟨.hbm, 156, rfl⟩
abbrev main_cst_22 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩

abbrev nD : Nat := 1
abbrev τ : Topo := Topo.v7x

variable {F : FTy → Type} [FloatOps F]
-- ==== Proof.Vec.lean ====
module

public import proofs.«01_k».proof.Proof.Gen.KernelIdeal.Skeleton

@[expose] public section

set_option maxRecDepth 16384

noncomputable section

/-! # The body of the kernel as functions of whole vectors

Each repeated part of the printed body (a shift of the row, a term of the word, a bit of the search) is one definition
here, and the repetitions are recursions on how many have been made. -/

namespace Cert.Loss

open Idealize.ShloMosaic Cert.KernelIdeal Cert.KernelIdeal.Gen

variable {F : FTy → Type} [FloatOps F]

/-! ## The masked image -/

/-- The rounded predictions of one image. -/
def roundedV (x : Vec F S1x512x512 .f32) : FVec F S512x512 .f32 :=
  roundeven (shapeCast S512x512 x shapeCasts_S1x512x512_S512x512 : FVec F S512x512 .f32)

/-- The mask of one image. -/
def maskV (y : Vec F S1x512x512 .f32) : FVec F S512x512 .f32 := shapeCast S512x512 y shapeCasts_S1x512x512_S512x512

/-- The rounded predictions times the mask. -/
def maskedV (x y : Vec F S1x512x512 .f32) : FVec F S512x512 .f32 := mulf (roundedV x) (maskV y)

/-! ## Counting the later columns that are larger -/

/-- The masked image with 128 columns of zeros after its last column. -/
def paddedV (a : FVec F S512x512 .f32) : FVec F S512x640 .f32 :=
  concatenate S512x640 1 [⟨S512x512, a⟩, ⟨S512x128, broadcast S512x128 (Scalar.ofBits .f32 0x00000000#32)⟩]
    concatenates_S512x512_S512x128_S512x640_d1

/-- The columns from `s` on lie inside the padded image. -/
theorem slices_hi (s : ℕ) (hs : s ≤ 640) : S512x640.Slices ![0, s] (⟨2, ![512, 640 - s]⟩ : Shape) :=
  ⟨rfl, fun a => by fin_cases a <;> simp; omega⟩

/-- The first `s` columns lie inside the padded image. -/
theorem slices_lo (s : ℕ) (hs : s ≤ 640) : S512x640.Slices ![0, 0] (⟨2, ![512, s]⟩ : Shape) :=
  ⟨rfl, fun a => by fin_cases a <;> simp; omega⟩

/-- The two pieces of a rotated row make up the row. -/
theorem concat_roll (s : ℕ) (hs : s ≤ 640) :
    Shape.Concatenates [(⟨2, ![512, 640 - s]⟩ : Shape), (⟨2, ![512, s]⟩ : Shape)] S512x640 1 := by
  refine ⟨by simp, fun q hq => ?_, ?_⟩
  · simp only [List.mem_cons, List.not_mem_nil, or_false] at hq
    rcases hq with rfl | rfl
    · exact ⟨rfl, fun b hb => by fin_cases b <;> first | rfl | exact absurd rfl hb⟩
    · exact ⟨rfl, fun b hb => by fin_cases b <;> first | rfl | exact absurd rfl hb⟩
  · simp; omega

/-- Every row rotated to the left by `s` columns. -/
def rolledV (x : FVec F S512x640 .f32) (s : ℕ) (hs : s ≤ 640) : FVec F S512x640 .f32 :=
  concatenate S512x640 1
    [⟨⟨2, ![512, 640 - s]⟩, extractStridedSlice ⟨2, ![512, 640 - s]⟩ ![0, s] x (slices_hi s hs)⟩,
     ⟨⟨2, ![512, s]⟩, extractStridedSlice ⟨2, ![512, s]⟩ ![0, 0] x (slices_lo s hs)⟩] (concat_roll s hs)

/-- How many of the first `k` rotations hold a larger entry. -/
def countV (x : FVec F S512x640 .f32) : (k : ℕ) → k ≤ 29 → IVec S512x640 32
  | 0, _ => broadcast S512x640 0#32
  | k + 1, h => addi (countV x k (Nat.le_of_succ_le h))
      (extui 32 (cmpf .olt x (rolledV x (k + 1) (h.trans (by decide)))) natLt_1_32)

/-- What one image adds to the first accumulator. -/
def descV (x y : Vec F S1x512x512 .f32) : FVec F S512x512 .f32 :=
  mulf (sitofp .f32 (extractStridedSlice S512x512 ![0, 0] (countV (paddedV (maskedV x y)) 29 le_rfl)
    slices_S512x640_o0_0_S512x512)) (maskV y)

/-! ## The keys -/

/-- The word of a whole number, its first `k` terms. -/
def wordV (whole : IVec S512x512 32) : ℕ → IVec S512x512 32
  | 0 => broadcast S512x512 1065353216#32
  | k + 1 => addi (wordV whole k) (shli (minsi (maxsi (subi whole (broadcast S512x512 (BitVec.ofNat 32 (2 ^ k))))
      (broadcast S512x512 0#32)) (broadcast S512x512 (BitVec.ofNat 32 (2 ^ k)))) (broadcast S512x512 (BitVec.ofNat 32 (23 - k))))

/-- The masked image with its zeros sent to infinity. -/
def aliveV (a : FVec F S512x512 .f32) : FVec F S512x512 .f32 :=
  select (cmpf .oeq a (broadcast S512x512 (Scalar.ofBits .f32 0x00000000#32)))
    (broadcast S512x512 (Scalar.ofBits .f32 0x7F800000#32)) a

/-- The words of a vector's entries. -/
def bitsV (s : FVec F S512x512 .f32) : IVec S512x512 32 :=
  have w : IVec S512x512 32 := select (cmpf .oeq (absf s) (broadcast S512x512 (Scalar.ofBits .f32 0x7F800000#32)))
    (broadcast S512x512 2139095040#32) (wordV (fptosi 32 (absf s)) 24)
  select (cmpf .olt s (broadcast S512x512 (Scalar.ofBits .f32 0x00000000#32)))
    (ori w (broadcast S512x512 2147483648#32)) w

/-- The keys, ordered as the entries are. -/
def keyV (a : FVec F S512x512 .f32) : IVec S512x512 32 :=
  have b : IVec S512x512 32 := bitsV (aliveV a)
  select (cmpi .sge b (broadcast S512x512 0#32)) b
    (xori (xori b (constantI S512x512 32 4294967295#32)) (broadcast S512x512 2147483648#32))

/-! ## The search for an order statistic -/

/-- How many rows of each column have the bit set. -/
def tallyV (c : IVec S512x512 1) : IVec S1x512 32 :=
  shapeCast S1x512 (multiReductionI .add [0] S512 (extui 32 c natLt_1_32) 0#32 reduces_S512x512_S512 rfl)
    shapeCasts_S512_S1x512

/-- How many entries of each column are not zero. -/
def sizeV (a : FVec F S512x512 .f32) : IVec S1x512 32 :=
  tallyV (cmpf .one a (broadcast S512x512 (Scalar.ofBits .f32 0x00000000#32)))

/-- The printed quotient by two. -/
def halfV (x : IVec S1x512 32) : IVec S1x512 32 :=
  select (andi (cmpi .ne (subi (extui 32 (cmpi .sgt x (broadcast S1x512 0#32)) natLt_1_32)
      (extui 32 (cmpi .slt x (broadcast S1x512 0#32)) natLt_1_32))
      (broadcast S1x512 (Scalar.subi (Scalar.extui (Scalar.cmpi .sgt 2#32 0#32)) (Scalar.extui (Scalar.cmpi .slt 2#32 0#32)))))
      (cmpi .ne (remsi x (broadcast S1x512 2#32)) (broadcast S1x512 0#32)))
    (subi (divsi x (broadcast S1x512 2#32)) (broadcast S1x512 1#32)) (divsi x (broadcast S1x512 2#32))

/-- The rank of the lower middle entry of each column. -/
def rankV (n : IVec S1x512 32) : IVec S1x512 32 := halfV (maxsi (subi n (broadcast S1x512 1#32)) (broadcast S1x512 0#32))

/-- The first step of the search: the sign. -/
def signV (key : IVec S512x512 32) (r : IVec S1x512 32) : IVec S1x512 32 × IVec S1x512 32 :=
  have c : IVec S1x512 32 := tallyV (cmpi .slt key (broadcast S512x512 0#32))
  (select (cmpi .slt r c) (broadcast S1x512 4294967295#32) (broadcast S1x512 0#32), select (cmpi .slt r c) r (subi r c))

/-- One step of the search: the bit at position `t`, from the prefix found and the rank left. -/
def bitV (key : IVec S512x512 32) (t : BitVec 32) (q : IVec S1x512 32 × IVec S1x512 32) :
    IVec S1x512 32 × IVec S1x512 32 :=
  have p : IVec S1x512 32 := muli q.1 (broadcast S1x512 2#32)
  have c : IVec S1x512 32 := tallyV (cmpi .eq (shrsi key (broadcast S512x512 t)) (broadcastTo S512x512 p broadcasts_S1x512_S512x512))
  (select (cmpi .slt q.2 c) p (addi p (broadcast S1x512 1#32)), select (cmpi .slt q.2 c) q.2 (subi q.2 c))

/-- The search after `k` bits. -/
def searchV (key : IVec S512x512 32) (r : IVec S1x512 32) : ℕ → IVec S1x512 32 × IVec S1x512 32
  | 0 => signV key r
  | k + 1 => bitV key (BitVec.ofNat 32 (30 - k)) (searchV key r k)

/-- The key after `k1` (which has rank `r` among its equals): itself again, or the least of the larger keys. -/
def nextV (key : IVec S512x512 32) (k1 r : IVec S1x512 32) : IVec S1x512 32 :=
  select (cmpi .slt (addi r (broadcast S1x512 1#32))
      (tallyV (cmpi .eq key (broadcastTo S512x512 k1 broadcasts_S1x512_S512x512)))) k1
    (shapeCast S1x512 (multiReductionI .minsi [0] S512
      (select (cmpi .sgt key (broadcastTo S512x512 k1 broadcasts_S1x512_S512x512)) key (broadcast S512x512 2147483647#32))
      2147483647#32 reduces_S512x512_S512 rfl) shapeCasts_S512_S1x512)

/-- The printed test that a count is odd. -/
def oddV (n : IVec S1x512 32) : IVec S1x512 1 :=
  have two : BitVec 32 := Scalar.select (Scalar.cmpi .eq 2#32 0#32) 1#32 2#32
  have r : IVec S1x512 32 := remsi n (broadcast S1x512 two)
  cmpi .eq (select (andi (xori (cmpi .slt r (broadcast S1x512 0#32))
      (broadcastTo S1x512 (broadcast S1x512 (Scalar.cmpi .slt two 0#32)) broadcasts_S1x512_S1x512))
      (cmpi .ne r (broadcast S1x512 0#32))) (addi r (broadcast S1x512 two)) r) (broadcast S1x512 1#32)

/-! ## From a key back to a number -/

/-- The whole number of a word, its first `k` terms. -/
def wholeV (mag : IVec S1x512 32) : ℕ → IVec S1x512 32
  | 0 => broadcast S1x512 1#32
  | k + 1 => addi (wholeV mag k) (shrsi (minsi (maxsi (subi mag (broadcast S1x512 (BitVec.ofNat 32 ((127 + k) * 2 ^ 23))))
      (broadcast S1x512 0#32)) (broadcast S1x512 8388608#32)) (broadcast S1x512 (BitVec.ofNat 32 (23 - k))))

/-- The word of a key. -/
def unkeyV (k : IVec S1x512 32) : IVec S1x512 32 :=
  select (cmpi .sge k (broadcast S1x512 0#32)) k
    (xori (xori k (broadcast S1x512 2147483648#32)) (constantI S1x512 32 4294967295#32))

/-- The number of a word. -/
def numberV (b : IVec S1x512 32) : FVec F S1x512 .f32 :=
  have mag : IVec S1x512 32 := andi b (broadcast S1x512 2147483647#32)
  have v : FVec F S1x512 .f32 := select (cmpi .eq mag (broadcast S1x512 2139095040#32))
    (broadcast S1x512 (Scalar.ofBits .f32 0x7F800000#32)) (sitofp .f32 (wholeV mag 24))
  select (cmpi .slt b (broadcast S1x512 0#32)) (subf (broadcast S1x512 (Scalar.ofBits .f32 0x00000000#32)) v) v

/-- The median of each column's entries other than zero. -/
def medianV (a : FVec F S512x512 .f32) : FVec F S1x512 .f32 :=
  have key : IVec S512x512 32 := keyV a
  have n : IVec S1x512 32 := sizeV a
  have q : IVec S1x512 32 × IVec S1x512 32 := searchV key (rankV n) 31
  have k2 : IVec S1x512 32 := select (oddV n) q.1 (nextV key q.1 q.2)
  select (cmpi .eq n (broadcast S1x512 0#32)) (broadcast S1x512 (Scalar.ofBits .f32 0x00000000#32))
    (mulf (addf (numberV (unkeyV q.1)) (numberV (unkeyV k2))) (broadcast S1x512 (Scalar.ofBits .f32 0x3F000000#32)))

/-- What one image adds to the second accumulator. -/
def offV (x y : Vec F S1x512x512 .f32) : FVec F S512x512 .f32 :=
  sitofp .f32 (extui 32 (cmpf .one (roundedV x) (broadcastTo S512x512 (medianV (maskedV x y)) broadcasts_S1x512_S512x512)) natLt_1_32)

/-- The result from the three accumulators. -/
def totalV (d e f : FVec F S512x512 .f32) : FVec F S1x1 .f32 := k0_pay3 d e f

end Cert.Loss
-- ==== Proof.Cases.lean ====
module

public import proofs.«01_k».proof.Proof.Vec
public import proofs.«01_k».proof.Proof.Gen.KernelIdeal.Value
public import Idealize.ShloMosaic.Lib.Tactic

@[expose] public section

set_option maxRecDepth 16384

noncomputable section

/-! # What each case of the body leaves, as functions of whole vectors -/

namespace Cert.Loss

open Idealize.ShloMosaic Idealize.ShloMosaic.TcCoe Idealize.SL.Sem
open Cert.KernelIdeal Cert.KernelIdeal.Gen

variable {F : FTy → Type} [FloatOps F]

/-- Two zero offsets are the zero offset function. -/
theorem hz2 : (![0, 0] : Fin 2 → Nat) = fun _ => 0 := funext fun a => by fin_cases a <;> rfl

/-- Three zero offsets are the zero offset function. -/
theorem hz3 : (![0, 0, 0] : Fin 3 → Nat) = fun _ => 0 := funext fun a => by fin_cases a <;> rfl

variable (c : Dev nD) (i : grid0.Coords) (a1 : Memref sig .tc .vmem S1x512x512 .f32) (h1 : a1.IsWhole)
  (a2 : Memref sig .tc .vmem S1x512x512 .f32) (h2 : a2.IsWhole) (a3 : Memref sig .tc .vmem S1x1 .f32) (h3 : a3.IsWhole)
  (a4 : Memref sig .tc .vmem S512x512 .f32) (h4 : a4.IsWhole) (a5 : Memref sig .tc .vmem S512x512 .f32) (h5 : a5.IsWhole)
  (a6 : Memref sig .tc .vmem S512x512 .f32) (h6 : a6.IsWhole)
  (x y : Vec F S1x512x512 .f32) (d e f : Vec F S512x512 .f32)

/-- A sum recast to its own shape is the sum. -/
theorem same_cast (u v : FVec F S512x512 .f32) :
    (shapeCast S512x512 (addf u v) shapeCasts_S512x512_S512x512 : FVec F S512x512 .f32) = addf u v := shapeCast_self ..

/-- The sum of zeros and a vector, recast to its own shape. -/
theorem same_cast_zero (v : FVec F S512x512 .f32) :
    (shapeCast S512x512 (addf (shapeCast S512x512 (broadcast S512x512 (Scalar.ofBits .f32 0x00000000#32) : FVec F S512x512 .f32)
      shapeCasts_S512x512_S512x512) v) shapeCasts_S512x512_S512x512 : FVec F S512x512 .f32)
      = addf (broadcast S512x512 (Scalar.ofBits .f32 0x00000000#32)) v := by
  rw [shapeCast_self, shapeCast_self]

/-- Case A adds to the first scratch: the pairs where a later column is larger. -/
theorem sout_A_0 (hc0 : cond0_0 i) (hc1 : ¬cond0_1 i) :
    sout0_A_0 c i a1 h1 a2 h2 a3 h3 a4 h4 a5 h5 a6 h6 hc0 hc1 x y = addf (broadcast S512x512 (Scalar.ofBits .f32 0x00000000#32)) (descV x y) := by
  unfold sout0_A_0
  rw [View.read_writes_eq_canon _ _ _ (scover0_A_0 c i a1 h1 a2 h2 a3 h3 a4 h4 a5 h5 a6 h6 hc0 hc1 x y)]
  unfold kernelRun0_A
  dsimp only
  sl_unfold_words
  rw [View.canon_cons_unit_zero (S := S512x512) hz2]
  simp only [View.readCov_unit_zero (S := S512x512) _ hz2]
  simp only [View.readAt_eq_ld, h1.read_unread, h2.read_unread, h4.read_unread, h5.read_unread, h6.read_unread,
    View.ld_unit_zero (S := S512x512) hz2, View.ld_unit_zero (S := S1x512x512) hz3]
  refine Eq.trans ?_ (same_cast_zero  (descV x y))
  sl_kernel_rfl

/-- Case A adds to the second scratch: the entries that differ from the median of their column. -/
theorem sout_A_1 (hc0 : cond0_0 i) (hc1 : ¬cond0_1 i) :
    sout0_A_1 c i a1 h1 a2 h2 a3 h3 a4 h4 a5 h5 a6 h6 hc0 hc1 x y = addf (broadcast S512x512 (Scalar.ofBits .f32 0x00000000#32)) (offV x y) := by
  unfold sout0_A_1
  rw [View.read_writes_eq_canon _ _ _ (scover0_A_1 c i a1 h1 a2 h2 a3 h3 a4 h4 a5 h5 a6 h6 hc0 hc1 x y)]
  unfold kernelRun0_A
  dsimp only
  sl_unfold_words
  rw [View.canon_cons_unit_zero (S := S512x512) hz2]
  simp only [View.readCov_unit_zero (S := S512x512) _ hz2]
  simp only [View.readAt_eq_ld, h1.read_unread, h2.read_unread, h4.read_unread, h5.read_unread, h6.read_unread,
    View.ld_unit_zero (S := S512x512) hz2, View.ld_unit_zero (S := S1x512x512) hz3]
  refine Eq.trans ?_ (same_cast_zero  (offV x y))
  sl_kernel_rfl

/-- Case A adds to the third scratch: the mask. -/
theorem sout_A_2 (hc0 : cond0_0 i) (hc1 : ¬cond0_1 i) :
    sout0_A_2 c i a1 h1 a2 h2 a3 h3 a4 h4 a5 h5 a6 h6 hc0 hc1 x y = addf (broadcast S512x512 (Scalar.ofBits .f32 0x00000000#32)) (maskV y) := by
  unfold sout0_A_2
  rw [View.read_writes_eq_canon _ _ _ (scover0_A_2 c i a1 h1 a2 h2 a3 h3 a4 h4 a5 h5 a6 h6 hc0 hc1 x y)]
  unfold kernelRun0_A
  dsimp only
  sl_unfold_words
  rw [View.canon_cons_unit_zero (S := S512x512) hz2]
  simp only [View.readCov_unit_zero (S := S512x512) _ hz2]
  simp only [View.readAt_eq_ld, h1.read_unread, h2.read_unread, h4.read_unread, h5.read_unread, h6.read_unread,
    View.ld_unit_zero (S := S512x512) hz2, View.ld_unit_zero (S := S1x512x512) hz3]
  refine Eq.trans ?_ (same_cast_zero  (maskV y))
  sl_kernel_rfl

/-- Case B adds to the first scratch: the pairs where a later column is larger. -/
theorem sout_B_0 (hc0 : ¬cond0_0 i) (hc1 : ¬cond0_1 i) :
    sout0_B_0 c i a1 h1 a2 h2 a3 h3 a4 h4 a5 h5 a6 h6 hc0 hc1 x y d e f = addf d (descV x y) := by
  unfold sout0_B_0
  rw [View.read_writes_eq_canon _ _ _ (scover0_B_0 c i a1 h1 a2 h2 a3 h3 a4 h4 a5 h5 a6 h6 hc0 hc1 x y d e f)]
  unfold kernelRun0_B
  dsimp only
  sl_unfold_words
  rw [View.canon_unit_zero hz2]
  simp only [View.readAt_eq_ld, h1.read_unread, h2.read_unread, h4.read_unread, h5.read_unread, h6.read_unread,
    View.ld_unit_zero (S := S512x512) hz2, View.ld_unit_zero (S := S1x512x512) hz3]
  refine Eq.trans ?_ (same_cast d (descV x y))
  sl_kernel_rfl

/-- Case B adds to the second scratch: the entries that differ from the median of their column. -/
theorem sout_B_1 (hc0 : ¬cond0_0 i) (hc1 : ¬cond0_1 i) :
    sout0_B_1 c i a1 h1 a2 h2 a3 h3 a4 h4 a5 h5 a6 h6 hc0 hc1 x y d e f = addf e (offV x y) := by
  unfold sout0_B_1
  rw [View.read_writes_eq_canon _ _ _ (scover0_B_1 c i a1 h1 a2 h2 a3 h3 a4 h4 a5 h5 a6 h6 hc0 hc1 x y d e f)]
  unfold kernelRun0_B
  dsimp only
  sl_unfold_words
  rw [View.canon_unit_zero hz2]
  simp only [View.readAt_eq_ld, h1.read_unread, h2.read_unread, h4.read_unread, h5.read_unread, h6.read_unread,
    View.ld_unit_zero (S := S512x512) hz2, View.ld_unit_zero (S := S1x512x512) hz3]
  refine Eq.trans ?_ (same_cast e (offV x y))
  sl_kernel_rfl

/-- Case B adds to the third scratch: the mask. -/
theorem sout_B_2 (hc0 : ¬cond0_0 i) (hc1 : ¬cond0_1 i) :
    sout0_B_2 c i a1 h1 a2 h2 a3 h3 a4 h4 a5 h5 a6 h6 hc0 hc1 x y d e f = addf f (maskV y) := by
  unfold sout0_B_2
  rw [View.read_writes_eq_canon _ _ _ (scover0_B_2 c i a1 h1 a2 h2 a3 h3 a4 h4 a5 h5 a6 h6 hc0 hc1 x y d e f)]
  unfold kernelRun0_B
  dsimp only
  sl_unfold_words
  rw [View.canon_unit_zero hz2]
  simp only [View.readAt_eq_ld, h1.read_unread, h2.read_unread, h4.read_unread, h5.read_unread, h6.read_unread,
    View.ld_unit_zero (S := S512x512) hz2, View.ld_unit_zero (S := S1x512x512) hz3]
  refine Eq.trans ?_ (same_cast f (maskV y))
  sl_kernel_rfl

/-- Case C adds to the first scratch: the pairs where a later column is larger. -/
theorem sout_C_0 (hc0 : ¬cond0_0 i) (hc1 : cond0_1 i) :
    sout0_C_0 c i a1 h1 a2 h2 a3 h3 a4 h4 a5 h5 a6 h6 hc0 hc1 x y d e f = addf d (descV x y) := by
  unfold sout0_C_0
  rw [View.read_writes_eq_canon _ _ _ (scover0_C_0 c i a1 h1 a2 h2 a3 h3 a4 h4 a5 h5 a6 h6 hc0 hc1 x y d e f)]
  unfold kernelRun0_C
  dsimp only
  sl_unfold_words
  rw [View.canon_unit_zero hz2]
  simp only [View.readAt_eq_ld, h1.read_unread, h2.read_unread, h4.read_unread, h5.read_unread, h6.read_unread,
    View.ld_unit_zero (S := S512x512) hz2, View.ld_unit_zero (S := S1x512x512) hz3]
  refine Eq.trans ?_ (same_cast d (descV x y))
  sl_kernel_rfl

/-- Case C adds to the second scratch: the entries that differ from the median of their column. -/
theorem sout_C_1 (hc0 : ¬cond0_0 i) (hc1 : cond0_1 i) :
    sout0_C_1 c i a1 h1 a2 h2 a3 h3 a4 h4 a5 h5 a6 h6 hc0 hc1 x y d e f = addf e (offV x y) := by
  unfold sout0_C_1
  rw [View.read_writes_eq_canon _ _ _ (scover0_C_1 c i a1 h1 a2 h2 a3 h3 a4 h4 a5 h5 a6 h6 hc0 hc1 x y d e f)]
  unfold kernelRun0_C
  dsimp only
  sl_unfold_words
  rw [View.canon_unit_zero hz2]
  simp only [View.readAt_eq_ld, h1.read_unread, h2.read_unread, h4.read_unread, h5.read_unread, h6.read_unread,
    View.ld_unit_zero (S := S512x512) hz2, View.ld_unit_zero (S := S1x512x512) hz3]
  refine Eq.trans ?_ (same_cast e (offV x y))
  sl_kernel_rfl

/-- Case C adds to the third scratch: the mask. -/
theorem sout_C_2 (hc0 : ¬cond0_0 i) (hc1 : cond0_1 i) :
    sout0_C_2 c i a1 h1 a2 h2 a3 h3 a4 h4 a5 h5 a6 h6 hc0 hc1 x y d e f = addf f (maskV y) := by
  unfold sout0_C_2
  rw [View.read_writes_eq_canon _ _ _ (scover0_C_2 c i a1 h1 a2 h2 a3 h3 a4 h4 a5 h5 a6 h6 hc0 hc1 x y d e f)]
  unfold kernelRun0_C
  dsimp only
  sl_unfold_words
  rw [View.canon_unit_zero hz2]
  simp only [View.readAt_eq_ld, h1.read_unread, h2.read_unread, h4.read_unread, h5.read_unread, h6.read_unread,
    View.ld_unit_zero (S := S512x512) hz2, View.ld_unit_zero (S := S1x512x512) hz3]
  refine Eq.trans ?_ (same_cast f (maskV y))
  sl_kernel_rfl

/-- Case C leaves in the result what the three scratches hold after it. -/
theorem out_C_2 (hc0 : ¬cond0_0 i) (hc1 : cond0_1 i) :
    out0_C_2 c i a1 h1 a2 h2 a3 h3 a4 h4 a5 h5 a6 h6 hc0 hc1 x y d e f = totalV (addf d (descV x y)) (addf e (offV x y)) (addf f (maskV y)) := by
  unfold out0_C_2
  rw [View.read_writes_eq_canon _ _ _ (cover0_C_2 c i a1 h1 a2 h2 a3 h3 a4 h4 a5 h5 a6 h6 hc0 hc1 x y d e f)]
  unfold kernelRun0_C
  dsimp only
  sl_unfold_words
  rw [View.canon_unit_zero hz2]
  simp only [View.readCov_unit_zero (S := S512x512) _ hz2]
  simp only [View.readAt_eq_ld, h1.read_unread, h2.read_unread, h4.read_unread, h5.read_unread, h6.read_unread,
    View.ld_unit_zero (S := S512x512) hz2, View.ld_unit_zero (S := S1x512x512) hz3]
  refine Eq.trans ?_ (congr (congrArg₂ totalV (same_cast d (descV x y)) (same_cast e (offV x y))) (same_cast f (maskV y)))
  sl_kernel_rfl

end Cert.Loss
-- ==== Proof.Search.lean ====
module

public import proofs.«01_k».proof.Proof.Cases
public import Idealize.ShloMosaic.Lib.Pointwise
public import Idealize.ShloMosaic.Lib.IndicatorCount

@[expose] public section

noncomputable section

/-! # The search for an order statistic of one column

The search keeps a prefix of the wanted key and the rank left among the keys with that prefix. -/

namespace Cert.Loss

open Idealize.ShloMosaic

/-! ## Order statistics -/

/-- The value `v` stands at place `k` (from zero) when the values of `f` are put in order. -/
def Ranked {α : Type} [LinearOrder α] (f : Fin 512 → α) (k : ℕ) (v : α) : Prop :=
  (Finset.univ.filter fun h => f h < v).card ≤ k ∧ k < (Finset.univ.filter fun h => f h ≤ v).card

/-- At most one value stands at a place. -/
theorem Ranked.unique {α : Type} [LinearOrder α] {f : Fin 512 → α} {k : ℕ} {v w : α} (hv : Ranked f k v)
    (hw : Ranked f k w) : v = w := by
  have key : ∀ {a b : α}, Ranked f k a → Ranked f k b → ¬ a < b := by
    intro a b ha hb hab
    have : (Finset.univ.filter fun h => f h ≤ a).card ≤ (Finset.univ.filter fun h => f h < b).card :=
      Finset.card_le_card fun h hh => by
        simp only [Finset.mem_filter, Finset.mem_univ, true_and] at hh ⊢
        exact lt_of_le_of_lt hh hab
    have h1 := ha.2
    have h2 := hb.1
    omega
  exact le_antisymm (not_lt.1 (key hw hv)) (not_lt.1 (key hv hw))

/-- A strictly increasing map of the values keeps their places. -/
theorem Ranked.map {α β : Type} [LinearOrder α] [LinearOrder β] {f : Fin 512 → α} {g : Fin 512 → β} {k : ℕ} {i : Fin 512}
    (hfg : ∀ h j, f h < f j ↔ g h < g j) (hv : Ranked f k (f i)) : Ranked g k (g i) := by
  have hle : ∀ h j, f h ≤ f j ↔ g h ≤ g j := fun h j => by
    rw [← not_lt, ← not_lt, hfg]
  unfold Ranked at hv ⊢
  simpa only [hfg, hle] using hv

/-! ## The invariant over whole numbers -/

/-- `P` is the prefix (all but `t` low bits) of the number at place `k`, and `r` its place among the numbers with it. -/
def Found (g : Fin 512 → ℤ) (k t : ℕ) (P : ℤ) (r : ℕ) : Prop :=
  r < (Finset.univ.filter fun h => g h / 2 ^ t = P).card ∧ r + (Finset.univ.filter fun h => g h / 2 ^ t < P).card = k

/-- The numbers satisfying one of two tests that exclude each other. -/
theorem card_split {p q s : Fin 512 → Prop} [DecidablePred p] [DecidablePred q] [DecidablePred s]
    (hs : ∀ h, s h ↔ p h ∨ q h) (hpq : ∀ h, p h → ¬ q h) :
    (Finset.univ.filter s).card = (Finset.univ.filter p).card + (Finset.univ.filter q).card := by
  rw [← Finset.card_union_of_disjoint, ← Finset.filter_or]
  · exact congrArg _ (Finset.filter_congr fun h _ => hs h)
  · exact Finset.disjoint_filter.2 fun h _ => hpq h

/-- Dividing by one more power of two halves. -/
theorem ediv_pow_succ (a : ℤ) (t : ℕ) : a / 2 ^ (t + 1) = a / 2 ^ t / 2 := by
  rw [pow_succ, Int.ediv_ediv_of_nonneg (by positivity)]

/-- One more bit: it is zero when enough numbers have the prefix with a zero, and else one. -/
theorem Found.step {g : Fin 512 → ℤ} {k t : ℕ} {P : ℤ} {r : ℕ} (hf : Found g k (t + 1) P r) :
    if r < (Finset.univ.filter fun h => g h / 2 ^ t = P * 2).card then Found g k t (P * 2) r
    else Found g k t (P * 2 + 1) (r - (Finset.univ.filter fun h => g h / 2 ^ t = P * 2).card) := by
  obtain ⟨h1, h2⟩ := hf
  have e1 : (Finset.univ.filter fun h => g h / 2 ^ (t + 1) = P).card
      = (Finset.univ.filter fun h => g h / 2 ^ t = P * 2).card + (Finset.univ.filter fun h => g h / 2 ^ t = P * 2 + 1).card :=
    card_split (fun h => by rw [ediv_pow_succ]; omega) (fun h => by omega)
  have e2 : (Finset.univ.filter fun h => g h / 2 ^ (t + 1) < P).card = (Finset.univ.filter fun h => g h / 2 ^ t < P * 2).card :=
    congrArg _ (Finset.filter_congr fun h _ => by rw [ediv_pow_succ]; omega)
  have e3 : (Finset.univ.filter fun h => g h / 2 ^ t < P * 2 + 1).card
      = (Finset.univ.filter fun h => g h / 2 ^ t < P * 2).card + (Finset.univ.filter fun h => g h / 2 ^ t = P * 2).card :=
    card_split (fun h => by omega) (fun h => by omega)
  split
  · next hr => exact ⟨hr, by omega⟩
  · next hr => exact ⟨by omega, by omega⟩

/-- With every bit found the prefix is the number at place `k`, and it is one of the numbers. -/
theorem Found.ranked {g : Fin 512 → ℤ} {k : ℕ} {P : ℤ} {r : ℕ} (hf : Found g k 0 P r) : (∃ h, g h = P) ∧ Ranked g k P := by
  obtain ⟨h1, h2⟩ := hf
  simp only [pow_zero, Int.ediv_one] at h1 h2
  have e : (Finset.univ.filter fun h => g h ≤ P).card
      = (Finset.univ.filter fun h => g h < P).card + (Finset.univ.filter fun h => g h = P).card :=
    card_split (fun h => le_iff_lt_or_eq) (fun h a b => absurd b a.ne)
  refine ⟨?_, by omega, by omega⟩
  obtain ⟨h, hh⟩ := Finset.card_pos.1 (lt_of_le_of_lt (Nat.zero_le _) h1)
  exact ⟨h, (Finset.mem_filter.1 hh).2⟩

/-! ## The search over words -/

/-- How many rows pass a test, as a word. -/
def tally (c : Fin 512 → BitVec 1) : BitVec 32 := BitVec.ofNat 32 (Finset.univ.filter fun h => c h = 1#1).card

/-- The count is below the word's size. -/
theorem tally_toNat (c : Fin 512 → BitVec 1) : (tally c).toNat = (Finset.univ.filter fun h => c h = 1#1).card := by
  have : (Finset.univ.filter fun h => c h = 1#1).card ≤ 512 := (Finset.card_le_univ _).trans (by simp)
  rw [tally, BitVec.toNat_ofNat, Nat.mod_eq_of_lt (by omega)]

/-- There are at most 512 rows. -/
theorem tally_le (c : Fin 512 → BitVec 1) : (tally c).toNat ≤ 512 := by
  rw [tally_toNat]; exact (Finset.card_le_univ _).trans (by simp)

/-- The first step over words: the sign. -/
def signW (key : Fin 512 → BitVec 32) (r : BitVec 32) : BitVec 32 × BitVec 32 :=
  have c : BitVec 32 := tally fun h => IntOp.cmpi .slt (key h) 0#32
  (Scalar.select (IntOp.cmpi .slt r c) 4294967295#32 0#32, Scalar.select (IntOp.cmpi .slt r c) r (IntOp.subi r c))

/-- One step over words: a bit. -/
def bitW (key : Fin 512 → BitVec 32) (t : BitVec 32) (q : BitVec 32 × BitVec 32) : BitVec 32 × BitVec 32 :=
  have p : BitVec 32 := IntOp.muli q.1 2#32
  have c : BitVec 32 := tally fun h => IntOp.cmpi .eq (IntOp.shrsi .vector (key h) t) p
  (Scalar.select (IntOp.cmpi .slt q.2 c) p (IntOp.addi p 1#32), Scalar.select (IntOp.cmpi .slt q.2 c) q.2 (IntOp.subi q.2 c))

/-- The search over words after `k` bits. -/
def searchW (key : Fin 512 → BitVec 32) (r : BitVec 32) : ℕ → BitVec 32 × BitVec 32
  | 0 => signW key r
  | k + 1 => bitW key (BitVec.ofNat 32 (30 - k)) (searchW key r k)

/-- A printed test holds exactly when its Boolean does. -/
theorem ofBool_one (b : Bool) : BitVec.ofBool b = 1#1 ↔ b = true := by cases b <;> decide

/-- A printed choice. -/
theorem select_ofBool {α : Type} (b : Bool) (x y : α) : Scalar.select (BitVec.ofBool b) x y = if b = true then x else y := by
  cases b <;> rfl

/-- Below 2³¹ the signed order of words is the order of their numbers. -/
theorem slt_small {x y : BitVec 32} (hx : x.toNat < 2 ^ 31) (hy : y.toNat < 2 ^ 31) : x.slt y = true ↔ x.toNat < y.toNat := by
  rw [BitVec.slt_iff_toInt_lt, BitVec.toInt_eq_toNat_of_lt (by omega), BitVec.toInt_eq_toNat_of_lt (by omega)]; omega

/-- The signed value lies between the bounds of the word. -/
theorem toInt_bounds (x : BitVec 32) : -2147483648 ≤ x.toInt ∧ x.toInt < 2147483648 := by
  have h1 := BitVec.le_toInt x
  have h2 := BitVec.toInt_lt (x := x)
  norm_num at h1 h2
  exact ⟨h1, h2⟩

/-- The sign step finds the sign of the number at place `k`. -/
theorem signW_found (key : Fin 512 → BitVec 32) (r : BitVec 32) (hr : r.toNat < 512) :
    Found (fun h => (key h).toInt) r.toNat 31 (signW key r).1.toInt (signW key r).2.toNat := by
  have hc : (tally fun h => IntOp.cmpi .slt (key h) 0#32).toNat = (Finset.univ.filter fun h => (key h).toInt / 2 ^ 31 = -1).card := by
    rw [tally_toNat]
    refine congrArg _ (Finset.filter_congr fun h _ => ?_)
    have := toInt_bounds (key h)
    simp only [IntOp.cmpi, ofBool_one, BitVec.slt_iff_toInt_lt, BitVec.toInt_zero]
    omega
  have hall : (Finset.univ.filter fun h : Fin 512 => (key h).toInt / 2 ^ 31 = -1).card
      + (Finset.univ.filter fun h : Fin 512 => (key h).toInt / 2 ^ 31 = 0).card = 512 := by
    rw [← card_split (s := fun _ => True)]
    · simp
    · intro h
      have := toInt_bounds (key h)
      simp only [true_iff]
      omega
    · intro h; omega
  have hle := tally_le fun h => IntOp.cmpi .slt (key h) 0#32
  unfold signW
  simp only [IntOp.cmpi, select_ofBool] at hc hle ⊢
  have hs := slt_small (x := r) (y := tally fun h => BitVec.ofBool ((key h).slt 0#32)) (by omega) (by omega)
  by_cases hlt : r.toNat < (tally fun h => BitVec.ofBool ((key h).slt 0#32)).toNat
  · rw [if_pos (hs.2 hlt), if_pos (hs.2 hlt)]
    refine ⟨by rw [show (4294967295#32).toInt = -1 by decide]; dsimp only; omega, ?_⟩
    rw [show (4294967295#32).toInt = -1 by decide]
    have : (Finset.univ.filter fun h : Fin 512 => (key h).toInt / 2 ^ 31 < -1) = ∅ :=
      Finset.filter_eq_empty_iff.2 fun h _ => by have := toInt_bounds (key h); omega
    rw [this]; rfl
  · rw [if_neg (fun e => hlt (hs.1 e)), if_neg (fun e => hlt (hs.1 e))]
    have hsub : (IntOp.subi r (tally fun h => BitVec.ofBool ((key h).slt 0#32))).toNat
        = r.toNat - (tally fun h => BitVec.ofBool ((key h).slt 0#32)).toNat := by
      show (r - _).toNat = _
      rw [BitVec.toNat_sub_of_le (by rw [BitVec.le_def]; omega)]
    have hneg : (Finset.univ.filter fun h : Fin 512 => (key h).toInt / 2 ^ 31 < 0).card
        = (Finset.univ.filter fun h : Fin 512 => (key h).toInt / 2 ^ 31 = -1).card :=
      congrArg _ (Finset.filter_congr fun h _ => by have := toInt_bounds (key h); omega)
    refine ⟨?_, ?_⟩
    · rw [BitVec.toInt_zero, hsub]; dsimp only; omega
    · rw [BitVec.toInt_zero, hsub]; dsimp only; rw [hneg]; omega

/-- Shifting right divides. -/
theorem shrsi_toInt (x : BitVec 32) (t : ℕ) (ht : t < 32) : (IntOp.shrsi .vector x (BitVec.ofNat 32 t)).toInt = x.toInt / 2 ^ t := by
  have h1 : (BitVec.ofNat 32 t).toNat = t := by rw [BitVec.toNat_ofNat, Nat.mod_eq_of_lt (by omega)]
  rw [IntOp.shrsi, if_pos (by omega), BitVec.sshiftRight', h1, BitVec.toInt_sshiftRight, Int.shiftRight_eq_div_pow]
  norm_cast

/-- The bit step keeps the invariant. -/
theorem bitW_found (key : Fin 512 → BitVec 32) (t k : ℕ) (ht : t < 31) (q : BitVec 32 × BitVec 32)
    (hq : Found (fun h => (key h).toInt) k (t + 1) q.1.toInt q.2.toNat) :
    Found (fun h => (key h).toInt) k t (bitW key (BitVec.ofNat 32 t) q).1.toInt (bitW key (BitVec.ofNat 32 t) q).2.toNat := by
  have hstep := hq.step
  obtain ⟨h1, -⟩ := hq
  have hcard : ∀ p : Fin 512 → Prop, ∀ [DecidablePred p], (Finset.univ.filter p).card ≤ 512 := fun p _ =>
    (Finset.card_le_univ _).trans (by simp)
  have hr : q.2.toNat < 512 := lt_of_lt_of_le h1 (hcard _)
  have hP : -1073741824 ≤ q.1.toInt ∧ q.1.toInt < 1073741824 := by
    obtain ⟨h, hh⟩ := Finset.card_pos.1 (lt_of_le_of_lt (Nat.zero_le _) h1)
    have hh := (Finset.mem_filter.1 hh).2
    have hb := toInt_bounds (key h)
    rw [ediv_pow_succ] at hh
    dsimp only at hh
    have hp : (1 : ℤ) ≤ 2 ^ t := one_le_pow₀ (by norm_num)
    have l1 : -2147483648 ≤ (key h).toInt / 2 ^ t := by
      refine Int.le_ediv_of_mul_le (by omega) ?_
      nlinarith
    have l2 : (key h).toInt / 2 ^ t < 2147483648 := by
      refine Int.ediv_lt_of_lt_mul (by omega) ?_
      nlinarith
    omega
  have hp : (IntOp.muli q.1 2#32).toInt = q.1.toInt * 2 := by
    show (q.1 * 2#32).toInt = _
    rw [BitVec.toInt_mul, show (2#32).toInt = 2 by decide, Int.bmod_eq_of_le] <;> norm_num <;> omega
  have hp1 : (IntOp.addi (IntOp.muli q.1 2#32) 1#32).toInt = q.1.toInt * 2 + 1 := by
    show (IntOp.muli q.1 2#32 + 1#32).toInt = _
    rw [BitVec.toInt_add, hp, show (1#32).toInt = 1 by decide, Int.bmod_eq_of_le] <;> norm_num <;> omega
  have hc : (tally fun h => IntOp.cmpi .eq (IntOp.shrsi .vector (key h) (BitVec.ofNat 32 t)) (IntOp.muli q.1 2#32)).toNat
      = (Finset.univ.filter fun h => (key h).toInt / 2 ^ t = q.1.toInt * 2).card := by
    rw [tally_toNat]
    refine congrArg _ (Finset.filter_congr fun h _ => ?_)
    rw [← shrsi_toInt _ t (by omega), ← hp]
    simp only [IntOp.cmpi, ofBool_one, beq_iff_eq]
    exact BitVec.toInt_inj.symm
  have hle := tally_le fun h => IntOp.cmpi .eq (IntOp.shrsi .vector (key h) (BitVec.ofNat 32 t)) (IntOp.muli q.1 2#32)
  unfold bitW
  dsimp only
  generalize (tally fun h => IntOp.cmpi .eq (IntOp.shrsi .vector (key h) (BitVec.ofNat 32 t)) (IntOp.muli q.1 2#32)) = c at hc hle ⊢
  rw [← hc] at hstep
  have hs := slt_small (x := q.2) (y := c) (by omega) (by omega)
  simp only [IntOp.cmpi, select_ofBool]
  by_cases hlt : q.2.toNat < c.toNat
  · rw [if_pos hlt] at hstep
    rw [if_pos (hs.2 hlt), if_pos (hs.2 hlt), hp]
    exact hstep
  · rw [if_neg hlt] at hstep
    rw [if_neg (fun e => hlt (hs.1 e)), if_neg (fun e => hlt (hs.1 e)), hp1]
    have hsub : (IntOp.subi q.2 c).toNat = q.2.toNat - c.toNat := by
      show (q.2 - c).toNat = _
      rw [BitVec.toNat_sub_of_le (by rw [BitVec.le_def]; omega)]
    rw [hsub]
    exact hstep

/-- After `k` bits the search has found all but the last `31 - k` of them. -/
theorem searchW_found (key : Fin 512 → BitVec 32) (r : BitVec 32) (hr : r.toNat < 512) (k : ℕ) (hk : k ≤ 31) :
    Found (fun h => (key h).toInt) r.toNat (31 - k) (searchW key r k).1.toInt (searchW key r k).2.toNat := by
  induction k with
  | zero => exact signW_found key r hr
  | succ k ih =>
    have := ih (by omega)
    rw [show 31 - k = (30 - k) + 1 by omega] at this
    rw [show 31 - (k + 1) = 30 - k by omega]
    exact bitW_found key (30 - k) _ (by omega) _ this

end Cert.Loss

end
-- ==== Proof.Word.lean ====
module

public import proofs.«01_k».proof.Proof.Search

@[expose] public section

noncomputable section

/-! # The word of a whole number

A whole number `n` from one to 2²⁴ has the word `(127 + j) · 2²³ + (n - 2ʲ) · 2²³⁻ʲ`, where `2ʲ` is the largest power of two
in it. The kernel adds the words up by powers of two, and takes them apart in the same way. -/

namespace Cert.Loss

open Idealize.ShloMosaic

/-! ## Over natural numbers -/

/-- The part of `n` between `2ʲ` and `2ʲ⁺¹`. -/
def part (n j : ℕ) : ℕ := min (n - 2 ^ j) (2 ^ j)

/-- The word of `n` by its first `k` parts. -/
def wordN (n : ℕ) : ℕ → ℕ
  | 0 => 1065353216
  | k + 1 => wordN n k + part n k * 2 ^ (23 - k)

/-- The whole number of a word by its first `k` parts. -/
def wholeN (m : ℕ) : ℕ → ℕ
  | 0 => 1
  | k + 1 => wholeN m k + min (m - (127 + k) * 2 ^ 23) (2 ^ 23) / 2 ^ (23 - k)

/-- A power of two times its complement. -/
theorem two_pow_split {j : ℕ} (hj : j ≤ 23) : 2 ^ j * 2 ^ (23 - j) = 8388608 := by
  rw [← pow_add, show j + (23 - j) = 23 by omega]; norm_num

/-- A part contributes at most 2²³. -/
theorem part_le {n j : ℕ} (hj : j ≤ 23) : part n j * 2 ^ (23 - j) ≤ 8388608 :=
  (Nat.mul_le_mul_right _ (min_le_right _ _)).trans (two_pow_split hj).le

/-- A part already passed contributes 2²³. -/
theorem part_full {n j : ℕ} (hj : j ≤ 23) (h : 2 ^ (j + 1) ≤ n) : part n j * 2 ^ (23 - j) = 8388608 := by
  rw [part, min_eq_right (by rw [pow_succ] at h; omega), two_pow_split hj]

/-- A part not reached contributes nothing. -/
theorem part_none {n j : ℕ} (h : n ≤ 2 ^ j) : part n j * 2 ^ (23 - j) = 0 := by
  rw [part, Nat.sub_eq_zero_of_le h]; simp

/-- The word's bounds. -/
theorem wordN_le (n k : ℕ) (hk : k ≤ 24) : 1065353216 ≤ wordN n k ∧ wordN n k ≤ 1065353216 + k * 8388608 := by
  induction k with
  | zero => exact ⟨le_rfl, by simp [wordN]⟩
  | succ k ih =>
    have h := part_le (n := n) (j := k) (by omega)
    have := ih (by omega)
    rw [wordN]
    constructor <;> omega

/-- The word grows with the number, up to any part. -/
theorem wordN_mono {n m : ℕ} (h : n ≤ m) (k : ℕ) : wordN n k ≤ wordN m k := by
  induction k with
  | zero => exact le_rfl
  | succ k ih =>
    refine Nat.add_le_add ih (Nat.mul_le_mul_right _ ?_)
    exact min_le_min (by omega) le_rfl

/-- The word grows strictly once the part that tells the numbers apart is in. -/
theorem wordN_lt {n m : ℕ} (h : n < m) {j k : ℕ} (hj : 2 ^ j ≤ n) (hn : n < 2 ^ (j + 1)) (hk : j < k) : wordN n k < wordN m k := by
  induction k with
  | zero => omega
  | succ k ih =>
    rcases Nat.lt_succ_iff_lt_or_eq.1 hk with hlt | rfl
    · refine Nat.add_lt_add_of_lt_of_le (ih hlt) (Nat.mul_le_mul_right _ ?_)
      exact min_le_min (by omega) le_rfl
    · refine Nat.add_lt_add_of_le_of_lt (wordN_mono h.le _) (Nat.mul_lt_mul_of_pos_right ?_ (by positivity))
      rw [pow_succ] at hn
      unfold part
      omega

/-- The word is strictly increasing on the whole numbers from one to 2²⁴. -/
theorem word_lt {n m : ℕ} (h1 : 1 ≤ n) (h : n < m) (hm : m ≤ 16777216) : wordN n 24 < wordN m 24 := by
  have hlog : n < 2 ^ (Nat.log 2 n + 1) := Nat.lt_pow_succ_log_self (by norm_num) n
  have hlog' : 2 ^ Nat.log 2 n ≤ n := Nat.pow_log_le_self 2 (by omega)
  refine wordN_lt h hlog' hlog ?_
  by_contra hc
  have : 2 ^ 24 ≤ 2 ^ Nat.log 2 n := Nat.pow_le_pow_right (by norm_num) (by omega)
  omega

/-- The word by its leading power of two. -/
theorem wordN_closed {n j : ℕ} (hj : 2 ^ j ≤ n) (hn : n < 2 ^ (j + 1)) (k : ℕ) (hk : k ≤ 24) :
    wordN n k = 1065353216 + min k j * 8388608 + if j < k then part n j * 2 ^ (23 - j) else 0 := by
  induction k with
  | zero => simp [wordN]
  | succ k ih =>
    rw [wordN, ih (by omega)]
    rcases lt_trichotomy k j with hlt | rfl | hgt
    · rw [part_full (by omega) ((Nat.pow_le_pow_right (by norm_num) hlt).trans hj), if_neg (by omega), if_neg (by omega)]
      omega
    · rw [if_neg (by omega), if_pos (by omega)]
      omega
    · rw [part_none (hn.le.trans (Nat.pow_le_pow_right (by norm_num) hgt)), if_pos (by omega), if_pos (by omega)]
      omega

/-- The parts of a word are the parts of its number. -/
theorem word_part {n i : ℕ} (h1 : 1 ≤ n) (hn : n ≤ 16777216) (hi : i < 24) :
    min (wordN n 24 - (127 + i) * 2 ^ 23) (2 ^ 23) = part n i * 2 ^ (23 - i) := by
  have hlog : n < 2 ^ (Nat.log 2 n + 1) := Nat.lt_pow_succ_log_self (by norm_num) n
  have hlog' : 2 ^ Nat.log 2 n ≤ n := Nat.pow_log_le_self 2 (by omega)
  have hj : Nat.log 2 n ≤ 24 := by
    by_contra hc
    have : 2 ^ 25 ≤ 2 ^ Nat.log 2 n := Nat.pow_le_pow_right (by norm_num) (by omega)
    omega
  generalize Nat.log 2 n = j at *
  rw [wordN_closed hlog' hlog 24 le_rfl]
  rcases lt_trichotomy i j with hlt | rfl | hgt
  · rw [part_full (by omega) ((Nat.pow_le_pow_right (by norm_num) hlt).trans hlog')]
    omega
  · have := part_le (n := n) (j := i) (by omega)
    rw [if_pos (by omega)]
    omega
  · have := part_le (n := n) (j := j) (by omega)
    rw [part_none (hlog.le.trans (Nat.pow_le_pow_right (by norm_num) hgt)), if_pos (by omega)]
    omega

/-- Taking a word apart gives its number back. -/
theorem wholeN_wordN {n : ℕ} (h1 : 1 ≤ n) (hn : n ≤ 16777216) (k : ℕ) (hk : k ≤ 24) : wholeN (wordN n 24) k = min n (2 ^ k) := by
  induction k with
  | zero => rw [wholeN]; simp; omega
  | succ k ih =>
    rw [wholeN, ih (by omega), word_part h1 hn (by omega), Nat.mul_div_cancel _ (by positivity), part, pow_succ]
    omega

/-! ## Over words -/

/-- The word of a whole number, its first `k` terms, over words. -/
def wordW (whole : BitVec 32) : ℕ → BitVec 32
  | 0 => 1065353216#32
  | k + 1 => IntOp.addi (wordW whole k) (IntOp.shli .vector (IntOp.minsi (IntOp.maxsi (IntOp.subi whole (BitVec.ofNat 32 (2 ^ k)))
      0#32) (BitVec.ofNat 32 (2 ^ k))) (BitVec.ofNat 32 (23 - k)))

/-- The whole number of a word, its first `k` terms, over words. -/
def wholeW (mag : BitVec 32) : ℕ → BitVec 32
  | 0 => 1#32
  | k + 1 => IntOp.addi (wholeW mag k) (IntOp.shrsi .vector (IntOp.minsi (IntOp.maxsi (IntOp.subi mag
      (BitVec.ofNat 32 ((127 + k) * 2 ^ 23))) 0#32) 8388608#32) (BitVec.ofNat 32 (23 - k)))

/-- A small number as a word. -/
theorem ofNat_small {c : ℕ} (hc : c < 2 ^ 31) : (BitVec.ofNat 32 c).toNat = c := by
  rw [BitVec.toNat_ofNat, Nat.mod_eq_of_lt (by omega)]

/-- The part of a word above `c`, at most `d`. -/
theorem clip_toNat {x : BitVec 32} {c d : ℕ} (hx : x.toNat < 2 ^ 31) (hc : c < 2 ^ 31) (hd : d < 2 ^ 31) :
    (IntOp.minsi (IntOp.maxsi (IntOp.subi x (BitVec.ofNat 32 c)) 0#32) (BitVec.ofNat 32 d)).toNat = min (x.toNat - c) d := by
  have h1 : (IntOp.maxsi (IntOp.subi x (BitVec.ofNat 32 c)) 0#32).toNat = x.toNat - c := by
    have hi : (x - BitVec.ofNat 32 c).toInt = x.toNat - c := by
      rw [BitVec.toInt_sub, BitVec.toInt_eq_toNat_of_lt (by omega), BitVec.toInt_eq_toNat_of_lt (by rw [ofNat_small hc]; omega),
        ofNat_small hc, Int.bmod_eq_of_le] <;> norm_num <;> omega
    show (if (0#32).slt (x - BitVec.ofNat 32 c) = true then x - BitVec.ofNat 32 c else 0#32).toNat = _
    simp only [BitVec.slt_iff_toInt_lt, hi, BitVec.toInt_zero]
    split
    · rw [BitVec.toNat_sub_of_le (by rw [BitVec.le_def, ofNat_small hc]; omega), ofNat_small hc]
    · rw [BitVec.toNat_ofNat]; omega
  generalize IntOp.maxsi (IntOp.subi x (BitVec.ofNat 32 c)) 0#32 = y at h1
  show (if y.slt (BitVec.ofNat 32 d) = true then y else BitVec.ofNat 32 d).toNat = _
  have hs := slt_small (x := y) (y := BitVec.ofNat 32 d) (by omega) (by rw [ofNat_small hd]; omega)
  rw [ofNat_small hd] at hs
  split
  · next h => have := hs.1 h; omega
  · next h => rw [ofNat_small hd]; have : ¬ y.toNat < d := fun e => h (hs.2 e); omega

/-- The word over words is the word over numbers. -/
theorem wordW_toNat (x : BitVec 32) (hx : x.toNat ≤ 16777216) (k : ℕ) (hk : k ≤ 24) : (wordW x k).toNat = wordN x.toNat k := by
  induction k with
  | zero => rfl
  | succ k ih =>
    have hp : 2 ^ k ≤ 8388608 := (Nat.pow_le_pow_right (by norm_num) (show k ≤ 23 by omega)).trans (by norm_num)
    have hc := clip_toNat (x := x) (c := 2 ^ k) (d := 2 ^ k) (by omega) (by omega) (by omega)
    have hb := wordN_le x.toNat k (by omega)
    have hl := part_le (n := x.toNat) (j := k) (by omega)
    have ih := ih (by omega)
    have hs : (IntOp.shli .vector (IntOp.minsi (IntOp.maxsi (IntOp.subi x (BitVec.ofNat 32 (2 ^ k)))
      0#32) (BitVec.ofNat 32 (2 ^ k))) (BitVec.ofNat 32 (23 - k))).toNat = part x.toNat k * 2 ^ (23 - k) := by
      rw [IntOp.shli, if_pos (by rw [ofNat_small (by omega)]; omega)]
      rw [BitVec.shiftLeft_eq', ofNat_small (by omega), BitVec.toNat_shiftLeft, hc, Nat.shiftLeft_eq]
      exact Nat.mod_eq_of_lt (by unfold part at hl; omega)
    rw [wordW, wordN]
    show (_ + _ : BitVec 32).toNat = _
    rw [BitVec.toNat_add, hs, ih, Nat.mod_eq_of_lt (by omega)]

/-- Taking apart over words is taking apart over numbers. -/
theorem wholeW_toNat (x : BitVec 32) (hx : x.toNat < 2 ^ 31) (k : ℕ) (hk : k ≤ 24) :
    (wholeW x k).toNat = wholeN x.toNat k ∧ wholeN x.toNat k ≤ 1 + k * 8388608 := by
  induction k with
  | zero => exact ⟨rfl, by simp [wholeN]⟩
  | succ k ih =>
    obtain ⟨ih, hb⟩ := ih (by omega)
    have hc := clip_toNat (x := x) (c := (127 + k) * 2 ^ 23) (d := 8388608) (by omega) (by omega) (by omega)
    have hs : (IntOp.shrsi .vector (IntOp.minsi (IntOp.maxsi (IntOp.subi x (BitVec.ofNat 32 ((127 + k) * 2 ^ 23)))
      0#32) 8388608#32) (BitVec.ofNat 32 (23 - k))).toNat = min (x.toNat - (127 + k) * 2 ^ 23) (2 ^ 23) / 2 ^ (23 - k) := by
      change (IntOp.minsi _ 8388608#32).toNat = _ at hc
      generalize IntOp.minsi (IntOp.maxsi (IntOp.subi x (BitVec.ofNat 32 ((127 + k) * 2 ^ 23))) 0#32) 8388608#32 = y at hc
      have hi := shrsi_toInt y (23 - k) (by omega)
      rw [BitVec.toInt_eq_toNat_of_lt (x := y) (by omega)] at hi
      rw [show (2 : ℕ) ^ 23 = 8388608 by norm_num] at hc ⊢
      rw [← hc]
      have hq : (y.toNat : ℤ) / 2 ^ (23 - k) = ((y.toNat / 2 ^ (23 - k) : ℕ) : ℤ) := by push_cast; rfl
      rw [hq] at hi
      have hle : y.toNat / 2 ^ (23 - k) ≤ y.toNat := Nat.div_le_self _ _
      generalize IntOp.shrsi .vector y (BitVec.ofNat 32 (23 - k)) = z at hi
      have := z.isLt
      generalize y.toNat / 2 ^ (23 - k) = q at hi hle ⊢
      rw [BitVec.toInt_eq_toNat_cond] at hi
      split at hi <;> omega
    have hd : min (x.toNat - (127 + k) * 2 ^ 23) (2 ^ 23) / 2 ^ (23 - k) ≤ 8388608 :=
      (Nat.div_le_self _ _).trans ((min_le_right _ _).trans (by norm_num))
    refine ⟨?_, by rw [wholeN]; omega⟩
    rw [wholeW, wholeN]
    show (_ + _ : BitVec 32).toNat = _
    rw [BitVec.toNat_add, hs, ih, Nat.mod_eq_of_lt (by omega)]

end Cert.Loss

end
-- ==== Proof.Key.lean ====
module

public import proofs.«01_k».proof.Proof.Word

@[expose] public section

noncomputable section

/-! # The key of a number, and the number of a key -/

namespace Cert.Loss

open Idealize.ShloMosaic

/-- A whole number as an extended real. -/
def intE (z : ℤ) : EReal := ((z : ℝ) : EReal)

/-- Zero sent to infinity. -/
def aliveE (a : EReal) : EReal := Scalar.select (Ideal.cmp .oeq a 0) ⊤ a

/-- The word of an entry. -/
def bitsW (s : EReal) : BitVec 32 :=
  have w : BitVec 32 := Scalar.select (Ideal.cmp .oeq (max s (-s)) ⊤) 2139095040#32 (wordW (Ideal.fptosi 32 (max s (-s))) 24)
  Scalar.select (Ideal.cmp .olt s 0) (IntOp.ori w 2147483648#32) w

/-- The key of a word. -/
def keyW (b : BitVec 32) : BitVec 32 :=
  Scalar.select (IntOp.cmpi .sge b 0#32) b (IntOp.xori (IntOp.xori b 4294967295#32) 2147483648#32)

/-- The word of a key. -/
def unkeyW (k : BitVec 32) : BitVec 32 :=
  Scalar.select (IntOp.cmpi .sge k 0#32) k (IntOp.xori (IntOp.xori k 2147483648#32) 4294967295#32)

/-- The number of a word. -/
def numberW (b : BitVec 32) : EReal :=
  have mag : BitVec 32 := IntOp.andi b 2147483647#32
  have v : EReal := Scalar.select (IntOp.cmpi .eq mag 2139095040#32) ⊤ (((wholeW mag 24).toInt : ℝ) : EReal)
  Scalar.select (IntOp.cmpi .slt b 0#32) (0 - v) v

/-! ## Words and the sign bit -/

/-- The test for a nonnegative word. -/
theorem sge_zero (b : BitVec 32) : IntOp.cmpi .sge b 0#32 = BitVec.ofBool (decide (0 ≤ b.toInt)) := by
  simp only [IntOp.cmpi]
  congr 1

/-- The test for a negative word. -/
theorem slt_zero (b : BitVec 32) : IntOp.cmpi .slt b 0#32 = BitVec.ofBool (decide (b.toInt < 0)) := by
  simp only [IntOp.cmpi]
  congr 1

/-- Setting the sign bit adds 2³¹. -/
theorem sign_toNat {w : BitVec 32} (hw : w.toNat < 2 ^ 31) : (IntOp.ori w 2147483648#32).toNat = w.toNat + 2 ^ 31 := by
  show (w ||| 2147483648#32).toNat = _
  rw [BitVec.toNat_or, Nat.or_comm, show (2147483648#32).toNat = 2 ^ 31 * 1 by decide, ← Nat.two_pow_add_eq_or_of_lt hw]
  omega

/-- A word below 2³¹ as a signed number. -/
theorem toInt_small {w : BitVec 32} (hw : w.toNat < 2 ^ 31) : w.toInt = w.toNat := BitVec.toInt_eq_toNat_of_lt (by omega)

/-- A word with the sign bit as a signed number. -/
theorem sign_toInt {w : BitVec 32} (hw : w.toNat < 2 ^ 31) : (IntOp.ori w 2147483648#32).toInt = w.toNat - 2147483648 := by
  rw [BitVec.toInt_eq_toNat_cond, sign_toNat hw, if_neg (by omega)]
  push_cast; omega

/-- Flipping the bits below the sign of a word with the sign bit. -/
theorem flip_sign {w : BitVec 32} (hw : w.toNat < 2 ^ 31) :
    IntOp.xori (IntOp.xori (IntOp.ori w 2147483648#32) 4294967295#32) 2147483648#32 = ~~~w := by
  have h31 : w.getLsbD 31 = false := by
    rw [← BitVec.msb_eq_getLsbD_last (x := w)]
    rw [BitVec.msb_eq_false_iff_two_mul_lt]; omega
  show ((w ||| 2147483648#32) ^^^ 4294967295#32) ^^^ 2147483648#32 = ~~~w
  rw [show (4294967295#32) = BitVec.allOnes 32 by decide, BitVec.xor_allOnes, show (2147483648#32) = BitVec.twoPow 32 31 by decide]
  apply BitVec.eq_of_getLsbD_eq
  intro i hi
  by_cases h : i = 31
  · subst h
    have h31' : w[31] = false := by rw [← h31, BitVec.getLsbD_eq_getElem]
    simp [h31']
  · simp [hi, h]

/-- Flipping twice gives the word back. -/
theorem flip_flip (b : BitVec 32) :
    IntOp.xori (IntOp.xori (IntOp.xori (IntOp.xori b 4294967295#32) 2147483648#32) 2147483648#32) 4294967295#32 = b := by
  show ((((b ^^^ 4294967295#32) ^^^ 2147483648#32) ^^^ 2147483648#32) ^^^ 4294967295#32) = b
  rw [BitVec.xor_assoc (b ^^^ 4294967295#32), BitVec.xor_self, BitVec.xor_zero, BitVec.xor_assoc, BitVec.xor_self, BitVec.xor_zero]

/-- The key of a word without the sign bit is the word, and gives it back. -/
theorem key_pos {w : BitVec 32} (hw : w.toNat < 2 ^ 31) : (keyW w).toInt = w.toNat ∧ unkeyW (keyW w) = w := by
  have h : keyW w = w := by rw [keyW, sge_zero, select_ofBool, if_pos (by rw [toInt_small hw]; simp)]
  rw [h, toInt_small hw]
  exact ⟨rfl, by rw [unkeyW, sge_zero, select_ofBool, if_pos (by rw [toInt_small hw]; simp)]⟩

/-- The key of a word with the sign bit is below zero, and gives it back. -/
theorem key_neg {w : BitVec 32} (hw : w.toNat < 2 ^ 31) :
    (keyW (IntOp.ori w 2147483648#32)).toInt = -1 - w.toNat ∧
      unkeyW (keyW (IntOp.ori w 2147483648#32)) = IntOp.ori w 2147483648#32 := by
  have h0 : keyW (IntOp.ori w 2147483648#32)
      = IntOp.xori (IntOp.xori (IntOp.ori w 2147483648#32) 4294967295#32) 2147483648#32 := by
    rw [keyW, sge_zero, select_ofBool, if_neg (by rw [sign_toInt hw]; simp; omega)]
  have h1 : (keyW (IntOp.ori w 2147483648#32)).toInt = -1 - w.toNat := by
    rw [h0, flip_sign hw, BitVec.toInt_eq_toNat_cond, BitVec.toNat_not, if_neg (by omega)]
    push_cast; omega
  refine ⟨h1, ?_⟩
  rw [unkeyW, sge_zero, select_ofBool, if_neg (by rw [h1]; simp; omega), h0, flip_flip]

/-- The word without its sign. -/
theorem mag_eq {w b : BitVec 32} (hw : w.toNat < 2 ^ 31) (hb : b.toNat = w.toNat ∨ b.toNat = w.toNat + 2 ^ 31) :
    IntOp.andi b 2147483647#32 = w := by
  apply BitVec.eq_of_toNat_eq
  show (b &&& 2147483647#32).toNat = _
  rw [BitVec.toNat_and, show (2147483647#32).toNat = 2 ^ 31 - 1 by decide, Nat.and_two_pow_sub_one_eq_mod]
  omega

/-! ## The key of a whole number -/

/-- The key as a whole number. -/
def keyZ (z : ℤ) : ℤ :=
  if z = 0 then 2139095040 else if 0 < z then (wordN z.toNat 24 : ℤ) else -1 - (wordN (-z).toNat 24 : ℤ)

/-- The number behind a key is zero, positive or negative. -/
theorem aliveE_zero : aliveE (intE 0) = ⊤ := by
  simp only [aliveE, Ideal.cmp, select_ofBool, decide_eq_true_eq]
  rw [if_pos (by simp [intE])]

/-- A number other than zero stays. -/
theorem aliveE_of_ne {z : ℤ} (hz : z ≠ 0) : aliveE (intE z) = intE z := by
  have : intE z ≠ 0 := by
    unfold intE
    exact_mod_cast hz
  simp only [aliveE, Ideal.cmp, select_ofBool, decide_eq_true_eq, this, if_false]

/-- Whole numbers are ordered as extended reals. -/
theorem intE_lt {z y : ℤ} : intE z < intE y ↔ z < y := by
  unfold intE
  rw [EReal.coe_lt_coe_iff, Int.cast_lt]

/-- Reading a whole number into a word. -/
theorem fptosi_nat {n : ℕ} (hn : n ≤ 16777216) : (Ideal.fptosi 32 (intE n)).toNat = n := by
  rw [Ideal.fptosi, intE, Ideal.toIntClamped_coe, if_pos (by positivity), Int.floor_intCast]
  rw [show max (-((2 ^ (32 - 1) : ℕ) : ℤ)) (min (((2 ^ (32 - 1) : ℕ) : ℤ) - 1) (n : ℤ)) = n by norm_num; omega]
  rw [BitVec.ofInt_natCast, ofNat_small (by omega)]

/-- The absolute value of a whole number. -/
theorem abs_intE (z : ℤ) : max (intE z) (-intE z) = intE (z.natAbs : ℤ) := by
  have : -intE z = intE (-z) := by unfold intE; rw [← EReal.coe_neg]; push_cast; rfl
  rw [this]
  rcases le_total 0 z with h | h
  · rw [max_eq_left, Int.natAbs_of_nonneg h]
    exact not_lt.1 fun e => by have := intE_lt.1 e; omega
  · rw [max_eq_right, Int.ofNat_natAbs_of_nonpos h]
    exact not_lt.1 fun e => by have := intE_lt.1 e; omega

/-- No whole number is infinite. -/
theorem intE_ne_top (z : ℤ) : intE z ≠ ⊤ := EReal.coe_ne_top _

/-- The word of a whole number other than zero. -/
theorem bitsW_int {z : ℤ} :
    bitsW (intE z) = if z < 0 then IntOp.ori (wordW (Ideal.fptosi 32 (intE (z.natAbs : ℤ))) 24) 2147483648#32
      else wordW (Ideal.fptosi 32 (intE (z.natAbs : ℤ))) 24 := by
  have h0 : (intE z < 0) ↔ z < 0 := by
    rw [← intE_lt]; unfold intE; simp
  rw [bitsW, abs_intE]
  simp only [Ideal.cmp, select_ofBool, decide_eq_true_eq, intE_ne_top, if_false, h0]

/-- The word of infinity. -/
theorem bitsW_top : bitsW ⊤ = 2139095040#32 := by
  simp only [bitsW, Ideal.cmp, select_ofBool, decide_eq_true_eq, not_top_lt, if_false]
  rw [if_pos (by simp)]

/-- The word's number, for the magnitude of a whole number. -/
theorem word_natAbs {z : ℤ} (h1 : -16777216 ≤ z) (h2 : z ≤ 16777216) :
    (wordW (Ideal.fptosi 32 (intE (z.natAbs : ℤ))) 24).toNat = wordN z.natAbs 24 := by
  rw [wordW_toNat _ (by rw [fptosi_nat (by omega)]; omega) 24 le_rfl, fptosi_nat (by omega)]

/-- The key over words is the key over whole numbers. -/
theorem key_toInt {z : ℤ} (h1 : -16777216 ≤ z) (h2 : z ≤ 16777216) : (keyW (bitsW (aliveE (intE z)))).toInt = keyZ z := by
  rcases eq_or_ne z 0 with rfl | hz
  · rw [aliveE_zero, bitsW_top]; decide
  rw [aliveE_of_ne hz, bitsW_int, keyZ, if_neg hz]
  have hw := word_natAbs h1 h2
  have hb := wordN_le z.natAbs 24 le_rfl
  rcases lt_or_gt_of_ne hz with hn | hp
  · rw [if_pos hn, if_neg (by omega), (key_neg (by omega)).1, hw, show z.natAbs = (-z).toNat by omega]
  · rw [if_neg (by omega), if_pos hp, (key_pos (by omega)).1, hw, show z.natAbs = z.toNat by omega]

/-- The key of a whole number gives the number back. -/
theorem number_key {z : ℤ} (h1 : -16777216 ≤ z) (h2 : z ≤ 16777216) :
    numberW (unkeyW (keyW (bitsW (aliveE (intE z))))) = aliveE (intE z) := by
  rcases eq_or_ne z 0 with rfl | hz
  · rw [aliveE_zero, bitsW_top, (key_pos (by decide)).2, numberW]
    rw [show IntOp.cmpi .eq (IntOp.andi 2139095040#32 2147483647#32) 2139095040#32 = 1#1 by decide,
      show IntOp.cmpi .slt 2139095040#32 0#32 = 0#1 by decide]
    rfl
  rw [aliveE_of_ne hz, bitsW_int]
  have hw := word_natAbs h1 h2
  have hb := wordN_le z.natAbs 24 le_rfl
  have hn := wholeN_wordN (n := z.natAbs) (by omega) (by omega) 24 le_rfl
  generalize wordW (Ideal.fptosi 32 (intE (z.natAbs : ℤ))) 24 = w at hw
  have hne : IntOp.cmpi .eq w 2139095040#32 = BitVec.ofBool false := by
    simp only [IntOp.cmpi]
    congr 1
    rw [beq_eq_false_iff_ne]
    intro e
    rw [e] at hw
    have : (2139095040#32).toNat = 2139095040 := by decide
    omega
  have hwh : (wholeW w 24).toInt = z.natAbs := by
    have h := (wholeW_toNat w (by omega) 24 le_rfl).1
    rw [hw, hn] at h
    rw [toInt_small (by omega), h]
    omega
  rcases lt_or_gt_of_ne hz with hneg | hpos
  · rw [if_pos hneg, (key_neg (by omega)).2, numberW, mag_eq (w := w) (by omega) (Or.inr (sign_toNat (by omega))), hne, slt_zero,
      sign_toInt (by omega), hwh, select_ofBool, select_ofBool, if_pos (by rw [decide_eq_true_eq]; omega), if_neg (by decide)]
    unfold intE
    rw [zero_sub, ← EReal.coe_neg]
    congr 1
    rw [show ((z.natAbs : ℤ) : ℝ) = ((-z : ℤ) : ℝ) by congr 1; omega]
    push_cast; ring
  · rw [if_neg (by omega), (key_pos (by omega)).2, numberW, mag_eq (w := w) (by omega) (Or.inl rfl), hne, slt_zero,
      toInt_small (by omega), hwh, select_ofBool, select_ofBool, if_neg (by rw [decide_eq_true_eq]; omega), if_neg (by decide)]
    unfold intE
    rw [show ((z.natAbs : ℤ) : ℝ) = ((z : ℤ) : ℝ) by congr 1; omega]

/-- The keys are ordered as the numbers, with zero sent to infinity. -/
theorem key_lt {z y : ℤ} (h1 : -16777216 ≤ z) (h2 : z ≤ 16777216) (h3 : -16777216 ≤ y) (h4 : y ≤ 16777216) :
    keyZ z < keyZ y ↔ aliveE (intE z) < aliveE (intE y) := by
  have bz1 := wordN_le z.toNat 24 le_rfl
  have bz2 := wordN_le (-z).toNat 24 le_rfl
  have by1 := wordN_le y.toNat 24 le_rfl
  have by2 := wordN_le (-y).toNat 24 le_rfl
  rcases eq_or_ne z 0 with rfl | hz
  · rw [aliveE_zero]
    simp only [not_top_lt, iff_false, not_lt]
    unfold keyZ
    split_ifs <;> omega
  rcases eq_or_ne y 0 with rfl | hy
  · rw [aliveE_zero, aliveE_of_ne hz]
    simp only [lt_top_iff_ne_top, ne_eq, intE_ne_top, not_false_eq_true, iff_true]
    unfold keyZ
    split_ifs <;> omega
  rw [aliveE_of_ne hz, aliveE_of_ne hy, intE_lt, keyZ, keyZ, if_neg hz, if_neg hy]
  split_ifs with hp hq hq
  · rcases lt_trichotomy z y with h | rfl | h
    · have := word_lt (n := z.toNat) (m := y.toNat) (by omega) (by omega) (by omega); omega
    · omega
    · have := word_lt (n := y.toNat) (m := z.toNat) (by omega) (by omega) (by omega); omega
  · omega
  · omega
  · rcases lt_trichotomy z y with h | rfl | h
    · have := word_lt (n := (-y).toNat) (m := (-z).toNat) (by omega) (by omega) (by omega); omega
    · omega
    · have := word_lt (n := (-z).toNat) (m := (-y).toNat) (by omega) (by omega) (by omega); omega

end Cert.Loss

end
-- ==== Proof.Column.lean ====
module

public import proofs.«01_k».proof.Proof.Key

@[expose] public section

set_option maxRecDepth 16384

noncomputable section

/-! # The median of one column

The vectors of the kernel read at one column, down to the words and numbers of the rows. -/

namespace Cert.Loss

open Idealize.ShloMosaic Cert.KernelIdeal Cert.KernelIdeal.Gen

/-! ## Constants -/

/-- The pattern of positive infinity. -/
theorem ofBits_inf : Ideal.ofBits .f32 0x7F800000#32 = ⊤ := by
  simp [Ideal.ofBits, Ideal.ieee]

/-! ## Reading the vectors at an index -/

/-- A count over the rows of a column. -/
theorem tallyV_at (c : IVec S512x512 1) (w : Fin 512) : tallyV c (ix2 0 w) = tally fun h => c (ix2 h w) := by
  pointwise [tallyV]
  exact IndicatorCount.fold_addi_setWidth_eq_card _ _

/-- The word of a whole number, entry by entry. -/
theorem wordV_at (x : IVec S512x512 32) (k : ℕ) (i : S512x512.Idx) : wordV x k i = wordW (x i) k := by
  induction k with
  | zero => rfl
  | succ k ih => rw [wordW, ← ih]; rfl

/-- The whole number of a word, entry by entry. -/
theorem wholeV_at (x : IVec S1x512 32) (k : ℕ) (i : S1x512.Idx) : wholeV x k i = wholeW (x i) k := by
  induction k with
  | zero => rfl
  | succ k ih => rw [wholeW, ← ih]; rfl

/-- The entries with zero sent to infinity. -/
theorem aliveV_at (a : FVec Ideal S512x512 .f32) (i : S512x512.Idx) : aliveV a i = aliveE (a i) := by
  show Scalar.select (Ideal.cmp .oeq (a i) (Ideal.ofBits .f32 0x00000000#32)) (Ideal.ofBits .f32 0x7F800000#32) (a i) = _
  rw [ofBits_inf, Ideal.ofBits_zero_f32]; rfl

/-- The words of the entries. -/
theorem bitsV_at (s : FVec Ideal S512x512 .f32) (i : S512x512.Idx) : bitsV s i = bitsW (s i) := by
  show Scalar.select (Ideal.cmp .olt (s i) (Ideal.ofBits .f32 0x00000000#32))
    (IntOp.ori (Scalar.select (Ideal.cmp .oeq (max (s i) (-(s i))) (Ideal.ofBits .f32 0x7F800000#32)) 2139095040#32
      (wordV (fptosi 32 (absf s)) 24 i)) 2147483648#32)
    (Scalar.select (Ideal.cmp .oeq (max (s i) (-(s i))) (Ideal.ofBits .f32 0x7F800000#32)) 2139095040#32
      (wordV (fptosi 32 (absf s)) 24 i)) = _
  rw [wordV_at, ofBits_inf, Ideal.ofBits_zero_f32]; rfl

/-- The keys of the entries. -/
theorem keyV_at (a : FVec Ideal S512x512 .f32) (i : S512x512.Idx) : keyV a i = keyW (bitsW (aliveE (a i))) := by
  rw [← aliveV_at, ← bitsV_at]; rfl

/-- The number of a word. -/
theorem numberV_at (b : IVec S1x512 32) (i : S1x512.Idx) : (numberV b : FVec Ideal S1x512 .f32) i = numberW (b i) := by
  show Scalar.select (IntOp.cmpi .slt (b i) 0#32)
    (Ideal.ofBits .f32 0x00000000#32 - Scalar.select (IntOp.cmpi .eq (IntOp.andi (b i) 2147483647#32) 2139095040#32)
      (Ideal.ofBits .f32 0x7F800000#32) (((wholeV (andi b (broadcast S1x512 2147483647#32)) 24 i).toInt : ℝ) : EReal))
    (Scalar.select (IntOp.cmpi .eq (IntOp.andi (b i) 2147483647#32) 2139095040#32)
      (Ideal.ofBits .f32 0x7F800000#32) (((wholeV (andi b (broadcast S1x512 2147483647#32)) 24 i).toInt : ℝ) : EReal)) = _
  rw [wholeV_at, ofBits_inf, Ideal.ofBits_zero_f32]; rfl

/-- The word of a key. -/
theorem unkeyV_at (k : IVec S1x512 32) (i : S1x512.Idx) : unkeyV k i = unkeyW (k i) := rfl

/-- The keys of one column. -/
def column (key : IVec S512x512 32) (w : Fin 512) : Fin 512 → BitVec 32 := fun h => key (ix2 h w)

/-- The sign step at a column. -/
theorem signV_at (key : IVec S512x512 32) (r : IVec S1x512 32) (w : Fin 512) :
    (signV key r).1 (ix2 0 w) = (signW (column key w) (r (ix2 0 w))).1 ∧
      (signV key r).2 (ix2 0 w) = (signW (column key w) (r (ix2 0 w))).2 := by
  unfold signW tally column
  simp only [← IndicatorCount.fold_addi_setWidth_eq_card]
  constructor
  · pointwise [signV, tallyV]
  · pointwise [signV, tallyV]

/-- The bit step at a column. -/
theorem bitV_at (key : IVec S512x512 32) (t : BitVec 32) (q : IVec S1x512 32 × IVec S1x512 32) (w : Fin 512) :
    (bitV key t q).1 (ix2 0 w) = (bitW (column key w) t (q.1 (ix2 0 w), q.2 (ix2 0 w))).1 ∧
      (bitV key t q).2 (ix2 0 w) = (bitW (column key w) t (q.1 (ix2 0 w), q.2 (ix2 0 w))).2 := by
  unfold bitW tally column
  simp only [← IndicatorCount.fold_addi_setWidth_eq_card]
  constructor
  · pointwise [bitV, tallyV]
  · pointwise [bitV, tallyV]

/-- The search at a column. -/
theorem searchV_at (key : IVec S512x512 32) (r : IVec S1x512 32) (w : Fin 512) (k : ℕ) :
    ((searchV key r k).1 (ix2 0 w), (searchV key r k).2 (ix2 0 w)) = searchW (column key w) (r (ix2 0 w)) k := by
  induction k with
  | zero =>
    rw [searchV, searchW, (signV_at key r w).1, (signV_at key r w).2]
  | succ k ih =>
    rw [searchV, searchW, ← ih, (bitV_at key _ _ w).1, (bitV_at key _ _ w).2]

/-- The following key over words. -/
def nextW (key : Fin 512 → BitVec 32) (k1 r : BitVec 32) : BitVec 32 :=
  Scalar.select (IntOp.cmpi .slt (IntOp.addi r 1#32) (tally fun h => IntOp.cmpi .eq (key h) k1)) k1
    (Finset.univ.fold IntOp.minsi 2147483647#32 fun h => Scalar.select (IntOp.cmpi .sgt (key h) k1) (key h) 2147483647#32)

/-- The following key at a column. -/
theorem nextV_at (key : IVec S512x512 32) (k1 r : IVec S1x512 32) (w : Fin 512) :
    nextV key k1 r (ix2 0 w) = nextW (column key w) (k1 (ix2 0 w)) (r (ix2 0 w)) := by
  unfold nextW tally
  rw [← IndicatorCount.fold_addi_setWidth_eq_card]
  pointwise [nextV, tallyV]
  rfl

/-- The least of words with a cap: below each of them and the cap, and one of them or the cap. -/
theorem fold_minsi {ι : Type} (S : Finset ι) (b : BitVec 32) (f : ι → BitVec 32) :
    (S.fold IntOp.minsi b f).toInt ≤ b.toInt ∧ (∀ i ∈ S, (S.fold IntOp.minsi b f).toInt ≤ (f i).toInt) ∧
      (S.fold IntOp.minsi b f = b ∨ ∃ i ∈ S, S.fold IntOp.minsi b f = f i) := by
  classical
  induction S using Finset.induction_on with
  | empty => exact ⟨le_rfl, fun i hi => absurd hi (Finset.notMem_empty i), Or.inl rfl⟩
  | insert a S ha ih =>
    obtain ⟨h1, h2, h3⟩ := ih
    rw [Finset.fold_insert ha]
    generalize S.fold IntOp.minsi b f = y at h1 h2 h3
    have hm : IntOp.minsi (f a) y = if (f a).toInt < y.toInt then f a else y := by
      show (if (f a).slt y = true then f a else y) = _
      simp only [BitVec.slt_iff_toInt_lt]
    rw [hm]
    split
    · next hlt =>
      refine ⟨by omega, fun i hi => ?_, Or.inr ⟨a, Finset.mem_insert_self a S, rfl⟩⟩
      rcases Finset.mem_insert.1 hi with rfl | hi
      · exact le_rfl
      · have := h2 i hi; omega
    · next hlt =>
      refine ⟨h1, fun i hi => ?_, ?_⟩
      · rcases Finset.mem_insert.1 hi with rfl | hi
        · omega
        · exact h2 i hi
      · rcases h3 with h3 | ⟨i, hi, h3⟩
        · exact Or.inl h3
        · exact Or.inr ⟨i, Finset.mem_insert_of_mem hi, h3⟩

/-- The following key stands at the following place, and is one of the keys. -/
theorem nextW_ranked (key : Fin 512 → BitVec 32) (k : ℕ) (k1 r : BitVec 32)
    (hf : Found (fun h => (key h).toInt) k 0 k1.toInt r.toNat) (hk : k + 1 < 512) :
    (∃ h, key h = nextW key k1 r) ∧ Ranked (fun h => (key h).toInt) (k + 1) (nextW key k1 r).toInt := by
  have hmem := hf.ranked.1
  obtain ⟨h1, h2⟩ := hf
  simp only [pow_zero, Int.ediv_one] at h1 h2
  have e : (Finset.univ.filter fun h => (key h).toInt ≤ k1.toInt).card
      = (Finset.univ.filter fun h => (key h).toInt < k1.toInt).card + (Finset.univ.filter fun h => (key h).toInt = k1.toInt).card :=
    card_split (fun h => le_iff_lt_or_eq) (fun h a b => absurd b a.ne)
  have hc : (tally fun h => IntOp.cmpi .eq (key h) k1).toNat = (Finset.univ.filter fun h => (key h).toInt = k1.toInt).card := by
    rw [tally_toNat]
    refine congrArg _ (Finset.filter_congr fun h _ => ?_)
    simp only [IntOp.cmpi, ofBool_one, beq_iff_eq]
    exact BitVec.toInt_inj.symm
  have hle := tally_le fun h => IntOp.cmpi .eq (key h) k1
  have hr1 : (IntOp.addi r 1#32).toNat = r.toNat + 1 := by
    show (r + 1#32).toNat = _
    rw [BitVec.toNat_add, show (1#32).toNat = 1 by decide]
    omega
  have hs := slt_small (x := IntOp.addi r 1#32) (y := tally fun h => IntOp.cmpi .eq (key h) k1) (by omega) (by omega)
  unfold nextW
  rw [show IntOp.cmpi .slt (IntOp.addi r 1#32) (tally fun h => IntOp.cmpi .eq (key h) k1)
    = BitVec.ofBool ((IntOp.addi r 1#32).slt (tally fun h => IntOp.cmpi .eq (key h) k1)) from rfl, select_ofBool]
  by_cases hlt : r.toNat + 1 < (tally fun h => IntOp.cmpi .eq (key h) k1).toNat
  · rw [if_pos (hs.2 (by omega))]
    refine ⟨?_, ?_, ?_⟩
    · obtain ⟨h, hh⟩ := hmem; exact ⟨h, BitVec.toInt_inj.1 hh⟩
    · dsimp only; omega
    · dsimp only; omega
  rw [if_neg (fun e => hlt (by have := hs.1 e; omega))]
  obtain ⟨m1, m2, m3⟩ := fold_minsi Finset.univ 2147483647#32
    (fun h => Scalar.select (IntOp.cmpi .sgt (key h) k1) (key h) 2147483647#32)
  generalize (Finset.univ.fold IntOp.minsi 2147483647#32
    fun h => Scalar.select (IntOp.cmpi .sgt (key h) k1) (key h) 2147483647#32) = m at m1 m2 m3
  have hsel : ∀ h, Scalar.select (IntOp.cmpi .sgt (key h) k1) (key h) 2147483647#32
      = if k1.toInt < (key h).toInt then key h else 2147483647#32 := fun h => by
    simp only [IntOp.cmpi, select_ofBool, BitVec.slt_iff_toInt_lt]
  simp only [hsel] at m2 m3
  have htop : (2147483647#32).toInt = 2147483647 := by decide
  -- some key lies above
  obtain ⟨h0, hh0⟩ : ∃ h, k1.toInt < (key h).toInt := by
    by_contra hno
    have : (Finset.univ.filter fun h => (key h).toInt ≤ k1.toInt) = Finset.univ :=
      Finset.filter_true_of_mem fun h _ => not_lt.1 fun e => hno ⟨h, e⟩
    rw [this, Finset.card_univ, Fintype.card_fin] at e
    omega
  have hm : ∃ h, k1.toInt < (key h).toInt ∧ key h = m := by
    have hcap : m = 2147483647#32 → ∃ h, k1.toInt < (key h).toInt ∧ key h = m := fun em => by
      have := m2 h0 (Finset.mem_univ _)
      rw [if_pos hh0, em, htop] at this
      have hb := toInt_bounds (key h0)
      exact ⟨h0, hh0, by rw [em]; exact BitVec.toInt_inj.1 (by rw [htop]; omega)⟩
    rcases m3 with em | ⟨i, -, em⟩
    · exact hcap em
    · split at em
      · next hi => exact ⟨i, hi, em.symm⟩
      · exact hcap em
  obtain ⟨i, hi, em⟩ := hm
  have hlow : ∀ h, k1.toInt < (key h).toInt → m.toInt ≤ (key h).toInt := fun h hh => by
    have := m2 h (Finset.mem_univ _)
    rwa [if_pos hh] at this
  refine ⟨⟨i, em⟩, ?_, ?_⟩
  · have : (Finset.univ.filter fun h => (key h).toInt < m.toInt) = Finset.univ.filter fun h => (key h).toInt ≤ k1.toInt :=
      Finset.filter_congr fun h _ => ⟨fun a => not_lt.1 fun b => by have := hlow h b; omega, fun a => by rw [← em]; omega⟩
    rw [this]
    omega
  · have : (Finset.univ.filter fun h => (key h).toInt ≤ k1.toInt).card < (Finset.univ.filter fun h => (key h).toInt ≤ m.toInt).card := by
      refine Finset.card_lt_card ⟨fun h hh => ?_, fun hsub => ?_⟩
      · have := (Finset.mem_filter.1 hh).2
        exact Finset.mem_filter.2 ⟨Finset.mem_univ _, by rw [← em]; omega⟩
      · have := (Finset.mem_filter.1 (hsub (Finset.mem_filter.2 ⟨Finset.mem_univ i, by rw [em]⟩))).2
        omega
    dsimp only
    omega

end Cert.Loss

end
-- ==== Proof.Median.lean ====
module

public import proofs.«01_k».proof.Proof.Column

@[expose] public section

set_option maxRecDepth 16384

noncomputable section

/-! # The kernel's median of a column -/

namespace Cert.Loss

open Idealize.ShloMosaic Cert.KernelIdeal Cert.KernelIdeal.Gen

/-- The printed quotient by two, over words. -/
def halfW (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 2#32 0#32)) (Scalar.extui (Scalar.cmpi .slt 2#32 0#32))))
      (IntOp.cmpi .ne (IntOp.remsi .vector x 2#32) 0#32))
    (IntOp.subi (IntOp.divsi .vector x 2#32) 1#32) (IntOp.divsi .vector x 2#32)

/-- The rank of the lower middle entry, over words. -/
def rankW (n : BitVec 32) : BitVec 32 := halfW (IntOp.maxsi (IntOp.subi n 1#32) 0#32)

/-- The printed test for an odd count, over words. -/
def oddW (n : BitVec 32) : BitVec 1 :=
  have two : BitVec 32 := Scalar.select (Scalar.cmpi .eq 2#32 0#32) 1#32 2#32
  have r : BitVec 32 := IntOp.remsi .vector n two
  IntOp.cmpi .eq (Scalar.select (IntOp.andi (IntOp.xori (IntOp.cmpi .slt r 0#32) (Scalar.cmpi .slt two 0#32)) (IntOp.cmpi .ne r 0#32))
    (IntOp.addi r two) r) 1#32

/-- The rank of the lower middle entry of at most 512. -/
theorem rankW_small : ∀ n : Fin 513, (rankW (BitVec.ofNat 32 n.val)).toNat = (n.val - 1) / 2 := by decide +kernel

/-- The test for an odd count of at most 512. -/
theorem oddW_small : ∀ n : Fin 513, oddW (BitVec.ofNat 32 n.val) = BitVec.ofBool (decide (n.val % 2 = 1)) := by decide +kernel

/-- The test of a count of at most 512 against zero. -/
theorem eqW_small : ∀ n : Fin 513, IntOp.cmpi .eq (BitVec.ofNat 32 n.val) 0#32 = BitVec.ofBool (decide (n.val = 0)) := by decide +kernel

/-- The rank at an index. -/
theorem rankV_at (n : IVec S1x512 32) (i : S1x512.Idx) : rankV n i = rankW (n i) := rfl

/-- The test at an index. -/
theorem oddV_at (n : IVec S1x512 32) (w : Fin 512) : oddV n (ix2 0 w) = oddW (n (ix2 0 w)) := by
  pointwise [oddV, oddW]

/-- The places of the entries other than zero in a column of whole numbers. -/
def sizeN (z : Fin 512 → ℤ) : ℕ := (Finset.univ.filter fun h => z h ≠ 0).card

/-- There are at most 512 of them. -/
theorem sizeN_le (z : Fin 512 → ℤ) : sizeN z ≤ 512 := (Finset.card_le_univ _).trans (by simp)

/-- The count of the entries other than zero. -/
theorem sizeV_at (a : FVec Ideal S512x512 .f32) (w : Fin 512) (z : Fin 512 → ℤ) (ha : ∀ h, a (ix2 h w) = intE (z h)) :
    sizeV a (ix2 0 w) = BitVec.ofNat 32 (sizeN z) := by
  rw [sizeV, tallyV_at, tally, sizeN]
  congr 2
  refine Finset.filter_congr fun h _ => ?_
  show Ideal.cmp .one (a (ix2 h w)) (Ideal.ofBits .f32 0x00000000#32) = 1#1 ↔ _
  rw [Ideal.ofBits_zero_f32, ha, Ideal.cmp, ofBool_one, decide_eq_true_iff, intE]
  exact_mod_cast Iff.rfl

/-- The numbers of a column with zero sent to infinity. -/
def aliveZ (z : Fin 512 → ℤ) : Fin 512 → EReal := fun h => aliveE (intE (z h))

/-- A key at a place gives the number at that place. -/
theorem ranked_number (z : Fin 512 → ℤ) (hz : ∀ h, -16777216 ≤ z h ∧ z h ≤ 16777216) (key : Fin 512 → BitVec 32)
    (hkey : ∀ h, key h = keyW (bitsW (aliveE (intE (z h))))) (k : ℕ) (v : BitVec 32) (hv : ∃ h, key h = v)
    (hr : Ranked (fun h => (key h).toInt) k v.toInt) : Ranked (aliveZ z) k (numberW (unkeyW v)) := by
  obtain ⟨i, rfl⟩ := hv
  have h1 : ∀ h, (key h).toInt = keyZ (z h) := fun h => by rw [hkey, key_toInt (hz h).1 (hz h).2]
  rw [hkey i, number_key (hz i).1 (hz i).2]
  refine Ranked.map (f := fun h => (key h).toInt) (g := aliveZ z) (i := i) (fun h j => ?_) hr
  simp only [h1]
  exact key_lt (hz h).1 (hz h).2 (hz j).1 (hz j).2

/-- The two middle entries and their mean, as the median of the entries other than zero. -/
def MedianOf (z : Fin 512 → ℤ) (m : EReal) : Prop :=
  ∃ lo hi : EReal, (sizeN z ≠ 0 → Ranked (aliveZ z) ((sizeN z - 1) / 2) lo ∧ Ranked (aliveZ z) (sizeN z / 2) hi) ∧
    m = if sizeN z = 0 then 0 else (lo + hi) * Ideal.ofBits .f32 0x3F000000#32

/-- There is one median. -/
theorem MedianOf.unique {z : Fin 512 → ℤ} {m m' : EReal} (h : MedianOf z m) (h' : MedianOf z m') : m = m' := by
  obtain ⟨lo, hi, h1, rfl⟩ := h
  obtain ⟨lo', hi', h2, rfl⟩ := h'
  by_cases hn : sizeN z = 0
  · rw [if_pos hn, if_pos hn]
  · rw [if_neg hn, if_neg hn, (h1 hn).1.unique (h2 hn).1, (h1 hn).2.unique (h2 hn).2]

/-- The kernel's median of a column of whole numbers is the median of its entries other than zero. -/
theorem medianV_at (a : FVec Ideal S512x512 .f32) (w : Fin 512) (z : Fin 512 → ℤ) (ha : ∀ h, a (ix2 h w) = intE (z h))
    (hz : ∀ h, -16777216 ≤ z h ∧ z h ≤ 16777216) : MedianOf z (medianV a (ix2 0 w)) := by
  have hn := sizeV_at a w z ha
  have hle := sizeN_le z
  have hrank : rankV (sizeV a) (ix2 0 w) = rankW (BitVec.ofNat 32 (sizeN z)) := by rw [rankV_at, hn]
  have hrankN := rankW_small ⟨sizeN z, by omega⟩
  have hodd : oddV (sizeV a) (ix2 0 w) = BitVec.ofBool (decide (sizeN z % 2 = 1)) := by
    rw [oddV_at, hn]; exact oddW_small ⟨sizeN z, by omega⟩
  have hzero : IntOp.cmpi .eq (sizeV a (ix2 0 w)) 0#32 = BitVec.ofBool (decide (sizeN z = 0)) := by
    rw [hn]
    exact eqW_small ⟨sizeN z, by omega⟩
  have hcol : ∀ h, column (keyV a) w h = keyW (bitsW (aliveE (intE (z h)))) := fun h => by
    rw [column, keyV_at, ha]
  have hsearch := searchV_at (keyV a) (rankV (sizeV a)) w 31
  have hf := searchW_found (column (keyV a) w) (rankW (BitVec.ofNat 32 (sizeN z))) (by rw [hrankN]; dsimp only; omega) 31 le_rfl
  rw [hrank] at hsearch
  rw [← hsearch, hrankN] at hf
  dsimp only at hf
  have hlo := hf.ranked
  have hm : medianV a (ix2 0 w) = Scalar.select (IntOp.cmpi .eq (sizeV a (ix2 0 w)) 0#32) (Ideal.ofBits .f32 0x00000000#32)
      ((numberV (unkeyV (searchV (keyV a) (rankV (sizeV a)) 31).1) (ix2 0 w)
        + numberV (unkeyV (select (oddV (sizeV a)) (searchV (keyV a) (rankV (sizeV a)) 31).1
          (nextV (keyV a) (searchV (keyV a) (rankV (sizeV a)) 31).1 (searchV (keyV a) (rankV (sizeV a)) 31).2))) (ix2 0 w))
        * Ideal.ofBits .f32 0x3F000000#32) := rfl
  rw [hm, hzero, select_ofBool, numberV_at, numberV_at, unkeyV_at, unkeyV_at, Ideal.ofBits_zero_f32]
  have hsel : select (oddV (sizeV a)) (searchV (keyV a) (rankV (sizeV a)) 31).1
          (nextV (keyV a) (searchV (keyV a) (rankV (sizeV a)) 31).1 (searchV (keyV a) (rankV (sizeV a)) 31).2) (ix2 0 w)
      = if decide (sizeN z % 2 = 1) = true then (searchV (keyV a) (rankV (sizeV a)) 31).1 (ix2 0 w)
        else nextW (column (keyV a) w) ((searchV (keyV a) (rankV (sizeV a)) 31).1 (ix2 0 w))
          ((searchV (keyV a) (rankV (sizeV a)) 31).2 (ix2 0 w)) := by
    rw [← nextV_at, ← select_ofBool, ← hodd]; rfl
  rw [hsel]
  generalize (searchV (keyV a) (rankV (sizeV a)) 31).1 (ix2 0 w) = k1 at hf hlo ⊢
  generalize (searchV (keyV a) (rankV (sizeV a)) 31).2 (ix2 0 w) = r1 at hf ⊢
  have hmem : ∃ h, column (keyV a) w h = k1 := by
    obtain ⟨h, hh⟩ := hlo.1; exact ⟨h, BitVec.toInt_inj.1 hh⟩
  refine ⟨numberW (unkeyW k1), numberW (unkeyW (if decide (sizeN z % 2 = 1) = true then k1 else nextW (column (keyV a) w) k1 r1)),
    fun hn0 => ⟨ranked_number z hz _ hcol _ k1 hmem hlo.2, ?_⟩, ?_⟩
  · by_cases hodd : sizeN z % 2 = 1
    · rw [if_pos (by simpa using hodd), show sizeN z / 2 = (sizeN z - 1) / 2 by omega]
      exact ranked_number z hz _ hcol _ k1 hmem hlo.2
    · rw [if_neg (by simpa using hodd), show sizeN z / 2 = (sizeN z - 1) / 2 + 1 by omega]
      have hx := nextW_ranked _ _ k1 r1 hf (by omega)
      exact ranked_number z hz _ hcol _ _ hx.1 hx.2
  · simp only [decide_eq_true_eq]

end Cert.Loss

end
-- ==== Proof.Accum.lean ====
module

public import proofs.«01_k».proof.Proof.Median
public import Idealize.ShloMosaic.Lib.IdealHost

@[expose] public section

set_option maxRecDepth 16384

noncomputable section

/-! # The accumulation over the eight images -/

namespace Cert.Loss

open Idealize.ShloMosaic Idealize.ShloMosaic.TcCoe Cert.KernelIdeal Cert.KernelIdeal.Gen Cert.KernelIdeal.Value

section

variable {F : FTy → Type} [FloatOps F]
variable (m : (ℓ : Loc nD τ sig) → Buf (Elt F) ℓ)

/-- The running sum of a sequence of vectors, from zero. -/
def runV (g : ℕ → FVec F S512x512 .f32) : ℕ → FVec F S512x512 .f32
  | 0 => addf (broadcast S512x512 (Scalar.ofBits .f32 0x00000000#32)) (g 0)
  | n + 1 => addf (runV g n) (g (n + 1))

/-- The block of predictions at a point. -/
def predB (c : Dev nD) (n : ℕ) : Vec F S1x512x512 .f32 := if h : n < cfg0.N then iblk m c 0 ⟨n, h⟩ else fun _ => Scalar.ofBits .f32 0x00000000#32

/-- The block of the mask at a point. -/
def maskB (c : Dev nD) (n : ℕ) : Vec F S1x512x512 .f32 := if h : n < cfg0.N then iblk m c 1 ⟨n, h⟩ else fun _ => Scalar.ofBits .f32 0x00000000#32

/-- The block of predictions at a point of the grid. -/
theorem predB_eq (c : Dev nD) (n : ℕ) (h : n < cfg0.N) : predB m c n = iblk m c 0 ⟨n, h⟩ := dif_pos h

/-- The block of the mask at a point of the grid. -/
theorem maskB_eq (c : Dev nD) (n : ℕ) (h : n < cfg0.N) : maskB m c n = iblk m c 1 ⟨n, h⟩ := dif_pos h

/-- The three running sums after a point. -/
def sumsV (c : Dev nD) (n : ℕ) : Vec F S512x512 .f32 × Vec F S512x512 .f32 × Vec F S512x512 .f32 :=
  (runV (fun k => descV (predB m c k) (maskB m c k)) n, runV (fun k => offV (predB m c k) (maskB m c k)) n,
    runV (fun k => maskV (maskB m c k)) n)

/-- The three accumulators after a point are the running sums. -/
theorem outsAt_eq (c : Dev nD) : ∀ (n : ℕ) (h : n < cfg0.N), (outsAt0 m c n h).2 = sumsV m c n
  | 0, h => by
    rw [outsAt0_A m c ⟨0, h⟩ rfl (show ¬0 % 8 = 7 by decide)]
    dsimp only
    rw [sout_A_0, sout_A_1, sout_A_2]
    simp only [sumsV, runV]
    rw [predB_eq m c 0 h, maskB_eq m c 0 h]
  | n + 1, h => by
    have hN : cfg0.N = 8 := N_0
    have hA : ¬(⟨n + 1, h⟩ : Fin cfg0.N).val % 8 = 0 := by dsimp only; omega
    have ih := outsAt_eq c n (Nat.lt_of_succ_lt h)
    have e : sumsV m c (n + 1) = (addf (sumsV m c n).1 (descV (predB m c (n + 1)) (maskB m c (n + 1))),
      addf (sumsV m c n).2.1 (offV (predB m c (n + 1)) (maskB m c (n + 1))),
      addf (sumsV m c n).2.2 (maskV (maskB m c (n + 1)))) := rfl
    rw [e, ← ih, predB_eq m c _ h, maskB_eq m c _ h]
    by_cases hC : (⟨n + 1, h⟩ : Fin cfg0.N).val % 8 = 7
    · rw [outsAt0_C m c ⟨n + 1, h⟩ hA hC]
      dsimp only
      rw [sout_C_0, sout_C_1, sout_C_2]
      rfl
    · rw [outsAt0_B m c ⟨n + 1, h⟩ hA hC]
      dsimp only
      rw [sout_B_0, sout_B_1, sout_B_2]
      rfl

/-- The kernel's result is the total of the three sums over the eight images. -/
theorem result_eq (c : Dev nD) : (G2 m c : Vec F S1x1 .f32) = totalV (sumsV m c 7).1 (sumsV m c 7).2.1 (sumsV m c 7).2.2 := by
  have h7 : 7 < cfg0.N := lt_of_lt_of_eq (by decide) N_0.symm
  have e : sumsV m c 7 = (addf (sumsV m c 6).1 (descV (predB m c 7) (maskB m c 7)),
      addf (sumsV m c 6).2.1 (offV (predB m c 7) (maskB m c 7)), addf (sumsV m c 6).2.2 (maskV (maskB m c 7))) := rfl
  have ih := outsAt_eq m c 6 (Nat.lt_of_succ_lt h7)
  rw [e, ← ih, predB_eq m c _ h7, maskB_eq m c _ h7, G2_last, ← outsAt0_sweep m c 7 h7]
  rw [outsAt0_C m c ⟨7, h7⟩ (show ¬7 % 8 = 0 by decide) (show 7 % 8 = 7 by decide)]
  dsimp only
  rw [out_C_2]

end

/-- The images without their channel, at an index. -/
theorem unchannel_at {α : Type} (x : S8x1x512x512.Idx → α) (hs : S8x1x512x512.ShapeCasts S8x512x512) (b : Fin 8) (h w : Fin 512) :
    shapeCast S8x512x512 x hs (ix3 b h w) = x (ix4 b 0 h w) := by
  pointwise

/-- A block of predictions at an index. -/
theorem predB_at {F : FTy → Type} [FloatOps F] (m : (ℓ : Loc nD τ sig) → Buf (Elt F) ℓ) (c : Dev nD) (b : Fin 8) (h w : Fin 512) :
    predB m c b.val (ix3 0 h w) = m ((c : Thread nD τ).loc main_arg1) (ix4 b 0 h w) := by
  have hb : b.val < cfg0.N := lt_of_lt_of_eq b.isLt (show cfg0.N = 8 from N_0).symm
  rw [predB, dif_pos hb]
  have hi : win0_0.index ⟨b.val, hb⟩ 0 = b.val ∧ win0_0.index ⟨b.val, hb⟩ 1 = 0 ∧ win0_0.index ⟨b.val, hb⟩ 2 = 0 := by
    rcases fin_N0 ⟨b.val, hb⟩ with e | e | e | e | e | e | e | e <;> rw [e, show b.val = _ from congrArg Fin.val e] <;> decide
  unfold iblk
  rw [View.read_apply]
  have hV : V m c main_v0 = shapeCast S8x512x512 (m ((c : Thread nD τ).loc main_arg1)) shapeCasts_S8x1x512x512_S8x512x512 := by
    unfold V
    rfl
  have hx : (m ((c : Thread nD τ).loc main_arg1)) (ix4 b 0 h w) = V m c main_v0 (ix3 b h w) := by
    rw [hV]; exact (unchannel_at _ _ b h w).symm
  rw [hx]
  show V m c main_v0 _ = _
  congr 1
  funext a
  apply Fin.ext
  match a with
  | ⟨0, _⟩ => show win0_0.index ⟨b.val, hb⟩ 0 * 1 + 1 * 0 = b.val; rw [hi.1]; omega
  | ⟨1, _⟩ => show win0_0.index ⟨b.val, hb⟩ 1 * 512 + 1 * h.val = h.val; rw [hi.2.1]; omega
  | ⟨2, _⟩ => show win0_0.index ⟨b.val, hb⟩ 2 * 512 + 1 * w.val = w.val; rw [hi.2.2]; omega

/-- A block of the mask at an index. -/
theorem maskB_at {F : FTy → Type} [FloatOps F] (m : (ℓ : Loc nD τ sig) → Buf (Elt F) ℓ) (c : Dev nD) (b : Fin 8) (h w : Fin 512) :
    maskB m c b.val (ix3 0 h w) = m ((c : Thread nD τ).loc main_arg2) (ix3 b h w) := by
  have hb : b.val < cfg0.N := lt_of_lt_of_eq b.isLt (show cfg0.N = 8 from N_0).symm
  rw [maskB, dif_pos hb]
  have hi : win0_1.index ⟨b.val, hb⟩ 0 = b.val ∧ win0_1.index ⟨b.val, hb⟩ 1 = 0 ∧ win0_1.index ⟨b.val, hb⟩ 2 = 0 := by
    rcases fin_N0 ⟨b.val, hb⟩ with e | e | e | e | e | e | e | e <;> rw [e, show b.val = _ from congrArg Fin.val e] <;> decide
  unfold iblk
  rw [View.read_apply]
  show V m c main_arg2 _ = _
  unfold V
  show m _ _ = _
  congr 1
  funext a
  apply Fin.ext
  match a with
  | ⟨0, _⟩ => show win0_1.index ⟨b.val, hb⟩ 0 * 1 + 1 * 0 = b.val; rw [hi.1]; omega
  | ⟨1, _⟩ => show win0_1.index ⟨b.val, hb⟩ 1 * 512 + 1 * h.val = h.val; rw [hi.2.1]; omega
  | ⟨2, _⟩ => show win0_1.index ⟨b.val, hb⟩ 2 * 512 + 1 * w.val = w.val; rw [hi.2.2]; omega

/-- The total at its one index. -/
theorem totalV_at (d e f : FVec Ideal S512x512 .f32) : totalV d e f (ix2 0 0)
    = Ideal.div (∑ h, ∑ w, (d (ix2 h w) * Ideal.ofBits .f32 0x41A00000#32 + e (ix2 h w) * f (ix2 h w))) (Ideal.ofBits .f32 0x4A000000#32) := by
  pointwise [totalV, k0_pay3]

end Cert.Loss

end
-- ==== Proof.Ref.lean ====
module

public import proofs.«01_k».proof.Proof.Accum
public import proofs.«01_k».proof.Proof.Gen.ReferenceIdeal.Run

@[expose] public section

set_option maxRecDepth 16384

noncomputable section

/-! # The reference as functions of whole arrays -/

namespace Cert.Loss.Ref

open Idealize.ShloMosaic Idealize.ShloMosaic.TcCoe Cert.ReferenceIdeal Cert.ReferenceIdeal.Gen

variable {F : FTy → Type} [FloatOps F]

/-- The column `w + s + 1` for every shift and column. -/
def colsR : IVec S29x512 32 :=
  addi (broadcastInDim S29x512 ![0, 1] bcast_S1x512_S29x512_0_1 (broadcastInDim S1x512 ![1] bcast_S512_S1x512_1 (iotaInDim S512 32 0)))
    (broadcastInDim S29x512 ![0, 1] bcast_S29x1_S29x512_0_1 (broadcastInDim S29x1 ![0] bcast_S29_S29x1_0
      (addi (broadcastInDim S29 ![] bcast_S_S29 (constantI S_ 32 1#32)) (iotaInDim S29 32 0))))

/-- The same columns as the places to read. -/
def startsR : IVec S29x512x1 32 :=
  broadcastInDim S29x512x1 ![0, 1] bcast_S29x512_S29x512x1_0_1
    (select (cmpi .slt colsR (broadcastInDim S29x512 ![] bcast_S_S29x512 (constantI S_ 32 0#32)))
      (addi colsR (broadcastInDim S29x512 ![] bcast_S_S29x512 (constantI S_ 32 541#32))) colsR)

/-- The rounded predictions without their channel. -/
def flatR (p : FVec F S8x1x512x512 .f32) : FVec F S8x512x512 .f32 :=
  shapeCast S8x512x512 (Host.roundeven p) shapeCasts_S8x1x512x512_S8x512x512

/-- An image read at each later column, zero beyond the last. -/
def laterR (x : FVec F S8x512x512 .f32) : FVec F S8x512x29x512 .f32 :=
  Host.gather gather_S8x512x541_S29x512x1_S8x512x29x512_01_2_n_n_2_2_85121
    (pad S8x512x541 ![0, 0, 0] ![0, 0, 29] ![0, 0, 0] x (sitofp .f32 (constantI S_ 32 0#32)) pads_S8x512x512_S8x512x541_000_000_0290 h_S_) startsR

/-- An image repeated for every shift. -/
def everyR (x : FVec F S8x512x512 .f32) : FVec F S8x512x29x512 .f32 :=
  broadcastInDim S8x512x29x512 ![0, 1, 2, 3] bcast_S8x512x1x512_S8x512x29x512_0_1_2_3
    (broadcastInDim S8x512x1x512 ![0, 1, 3] bcast_S8x512x512_S8x512x1x512_0_1_3 x)

/-- Where a later column is larger. -/
def risesR (p : FVec F S8x1x512x512 .f32) (m : FVec F S8x512x512 .f32) : IVec S8x512x29x512 1 :=
  cmpf .olt (subf (everyR (mulf (flatR p) m)) (mulf (laterR (flatR p)) (mulf (laterR m) (everyR m))))
    (broadcastInDim S8x512x29x512 ![] bcast_S_S8x512x29x512 (constant S_ .f32 0x00000000#32))

/-- The rounded predictions times the mask. -/
def maskedR (p : FVec F S8x1x512x512 .f32) (m : FVec F S8x512x512 .f32) : FVec F S8x1x512x512 .f32 :=
  mulf (Host.roundeven p) (broadcastInDim S8x1x512x512 ![0, 2, 3] bcast_S8x512x512_S8x1x512x512_0_2_3 m)

/-- Zero, for every column. -/
def zeroR : IVec S8x1x1x512 32 := broadcastInDim S8x1x1x512 ![] bcast_S_S8x1x1x512 (constantI S_ 32 0#32)

/-- How many entries of each column are not zero. -/
def sizeR (a : FVec F S8x1x512x512 .f32) : IVec S8x1x1x512 32 :=
  broadcastInDim S8x1x1x512 ![0, 1, 3] bcast_S8x1x512_S8x1x1x512_0_1_3
    (Host.reduce IntOp.addi (extui 32 (cmpf .une a (broadcastInDim S8x1x512x512 ![] bcast_S_S8x1x512x512 (constant S_ .f32 0x00000000#32))) natLt_1_32)
      (constantI S_ 32 0#32) reducesTo_S8x1x512x512_S8x1x512_d2 h_S_)

/-- The printed quotient by two. -/
def halfR (n : IVec S8x1x1x512 32) : IVec S8x1x1x512 32 :=
  select (andi (cmpi .ne (signi n) (broadcastInDim S8x1x1x512 ![] bcast_S_S8x1x1x512 (signi (id (constantI S_ 32 2#32)))))
      (cmpi .ne (Host.remsi n (broadcastInDim S8x1x1x512 ![] bcast_S_S8x1x1x512 (id (constantI S_ 32 2#32)))) zeroR))
    (subi (Host.divsi n (broadcastInDim S8x1x1x512 ![] bcast_S_S8x1x1x512 (id (constantI S_ 32 2#32))))
      (broadcastInDim S8x1x1x512 ![] bcast_S_S8x1x1x512 (constantI S_ 32 1#32)))
    (Host.divsi n (broadcastInDim S8x1x1x512 ![] bcast_S_S8x1x1x512 (id (constantI S_ 32 2#32))))

/-- The rank of the lower middle entry. -/
def rankR (n : IVec S8x1x1x512 32) : IVec S8x1x1x512 32 :=
  halfR (maxsi (subi n (broadcastInDim S8x1x1x512 ![] bcast_S_S8x1x1x512 (constantI S_ 32 1#32))) zeroR)

/-- The columns in ascending order, zeros last. -/
def sortedR (a : FVec F S8x1x512x512 .f32) : FVec F S8x1x512x512 .f32 :=
  Host.sort S8x1x512x512 2 comparator_f32_d2
    (select (cmpf .oeq a (broadcastInDim S8x1x512x512 ![] bcast_S_S8x1x512x512 (constant S_ .f32 0x00000000#32)))
      (broadcastInDim S8x1x512x512 ![] bcast_S_S8x1x512x512 (id (constant S_ .f32 0x7F800000#32))) a)

/-- One entry of each column. -/
def takeR (a : FVec F S8x1x512x512 .f32) (k : IVec S8x1x1x512 32) : FVec F S8x1x1x512 .f32 :=
  Host.gather gather_S8x1x512x512_S8x1x512x1_S8x1x1x512_1_2_03_02_2_3_1111 a
    (shapeCast S8x1x512x1 (select (cmpi .slt k zeroR) (addi k (broadcastInDim S8x1x1x512 ![] bcast_S_S8x1x1x512 (constantI S_ 32 512#32))) k)
      shapeCasts_S8x1x1x512_S8x1x512x1)

/-- The median of the entries other than zero of each column. -/
def medianR (a : FVec F S8x1x512x512 .f32) : FVec F S8x1x1x512 .f32 :=
  select (cmpi .eq (sizeR a) zeroR) (broadcastInDim S8x1x1x512 ![] bcast_S_S8x1x1x512 (id (constant S_ .f32 0x00000000#32)))
    (mulf (addf (takeR (sortedR a) (rankR (sizeR a))) (takeR (sortedR a) (halfR (sizeR a))))
      (broadcastInDim S8x1x1x512 ![] bcast_S_S8x1x1x512 (constant S_ .f32 0x3F000000#32)))

/-- Where a prediction of one image differs from the median under the mask of another. -/
def offR (p : FVec F S8x1x512x512 .f32) (m : FVec F S8x512x512 .f32) : IVec S8x8x512x512 1 :=
  cmpf .une (mulf (broadcastInDim S8x8x512x512 ![0, 1, 2, 3] bcast_S8x1x512x512_S8x8x512x512_0_1_2_3
      (subf (Host.roundeven p) (broadcastInDim S8x1x512x512 ![0, 1, 2, 3] bcast_S8x1x1x512_S8x1x512x512_0_1_2_3 (medianR (maskedR p m)))))
    (broadcastInDim S8x8x512x512 ![0, 1, 2, 3] bcast_S1x8x512x512_S8x8x512x512_0_1_2_3
      (broadcastInDim S1x8x512x512 ![1, 2, 3] bcast_S8x512x512_S1x8x512x512_1_2_3 m)))
    (broadcastInDim S8x8x512x512 ![] bcast_S_S8x8x512x512 (constant S_ .f32 0x00000000#32))

/-- The loss. -/
def lossR (p : FVec F S8x1x512x512 .f32) (m : FVec F S8x512x512 .f32) : FVec F S1x1 .f32 :=
  shapeCast S1x1 (addf
    (mulf (Host.divf (Host.reduceAdd (uitofp .f32 (risesR p m)) (constant S_ .f32 0x00000000#32) reducesTo_S8x512x29x512_S_d0_1_2_3 h_S_)
      (constant S_ .f32 0x4A000000#32)) (constant S_ .f32 0x41A00000#32))
    (Host.divf (Host.reduceAdd (uitofp .f32 (offR p m)) (constant S_ .f32 0x00000000#32) reducesTo_S8x8x512x512_S_d0_1_2_3 h_S_)
      (constant S_ .f32 0x4A000000#32))) shapeCasts_S_S1x1

/-- The reference's result is the loss of its predictions and mask. -/
theorem res_eq (m : (ℓ : Loc nD τ sig) → Buf (Elt F) ℓ) (c : Dev nD) :
    Cert.ReferenceIdeal.Value.res_main_v78 m c
      = lossR (m ((c.tc : Thread nD τ).loc main_arg1)) (m ((c.tc : Thread nD τ).loc main_arg2)) := by
  unfold Cert.ReferenceIdeal.Value.res_main_v78
  sl_kernel_rfl

end Cert.Loss.Ref

end
-- ==== Proof.RefAt.lean ====
module

public import proofs.«01_k».proof.Proof.Ref
public import Idealize.ShloMosaic.Lib.IdealHost

@[expose] public section

set_option maxRecDepth 16384

noncomputable section

/-! # The reference read at an index -/

namespace Cert.Loss.Ref

open Idealize.ShloMosaic Idealize.ShloMosaic.TcCoe Cert.ReferenceIdeal Cert.ReferenceIdeal.Gen

/-- The place read for a shift and a column. -/
theorem startsR_at (s : Fin 29) (w : Fin 512) : startsR (ix3 s w 0) = BitVec.ofNat 32 (w.val + s.val + 1) := by
  have h : startsR (ix3 s w 0) = Scalar.select (IntOp.cmpi .slt (BitVec.ofNat 32 w.val + (1#32 + BitVec.ofNat 32 s.val)) 0#32)
      (BitVec.ofNat 32 w.val + (1#32 + BitVec.ofNat 32 s.val) + 541#32) (BitVec.ofNat 32 w.val + (1#32 + BitVec.ofNat 32 s.val)) := by
    pointwise [startsR, colsR]
    rfl
  have e : BitVec.ofNat 32 w.val + (1#32 + BitVec.ofNat 32 s.val) = BitVec.ofNat 32 (w.val + s.val + 1) := by
    apply BitVec.eq_of_toNat_eq
    simp only [BitVec.toNat_add, BitVec.toNat_ofNat]
    omega
  rw [h, e]
  have hs : ¬(BitVec.ofNat 32 (w.val + s.val + 1)).slt 0#32 = true := by
    rw [slt_small (by simp only [BitVec.toNat_ofNat]; omega) (by decide)]
    simp
  rw [IntOp.cmpi, select_ofBool, if_neg hs]

/-- A small word read as a signed number. -/
theorem toInt_small (a : ℕ) (h : a < 2 ^ 31) : (BitVec.ofNat 32 a).toInt = a := by
  rw [BitVec.toInt_eq_toNat_of_lt (by simp only [BitVec.toNat_ofNat]; omega), BitVec.toNat_ofNat, Nat.mod_eq_of_lt (by omega)]

/-- Reading the padded image at the places of a shift and a column. -/
theorem gather1 {α : Type} (x : S8x512x541.Idx → α) (idx : IVec S29x512x1 32) (b : Fin 8) (h : Fin 512) (s : Fin 29) (w : Fin 512) (k : Fin 541)
    (hk : idx (ix3 s w 0) = BitVec.ofNat 32 k.val) :
    Host.gather gather_S8x512x541_S29x512x1_S8x512x29x512_01_2_n_n_2_2_85121 x idx (ix4 b h s w) = x (ix3 b h k) := by
  unfold Host.gather
  refine congrArg x (funext fun a => Fin.ext ?_)
  match a with
  | ⟨0, _⟩ => show 0 + 0 + b.val = b.val; omega
  | ⟨1, _⟩ => show 0 + 0 + h.val = h.val; omega
  | ⟨2, _⟩ =>
    have e : gather_S8x512x541_S29x512x1_S8x512x29x512_01_2_n_n_2_2_85121.siIdx (ix4 b h s w) ⟨0, by decide⟩ = ix3 s w 0 := by
      funext q; match q with
      | ⟨0, _⟩ => rfl
      | ⟨1, _⟩ => rfl
      | ⟨2, _⟩ => rfl
    show min (idx (gather_S8x512x541_S29x512x1_S8x512x29x512_01_2_n_n_2_2_85121.siIdx (ix4 b h s w) ⟨0, by decide⟩)).toInt.toNat 540 = k.val
    rw [e, hk, toInt_small _ (by omega)]
    omega

/-- Reading one entry of every column. -/
theorem gather2 {α : Type} (x : S8x1x512x512.Idx → α) (idx : IVec S8x1x512x1 32) (b : Fin 8) (w : Fin 512) (k : Fin 512)
    (hk : idx (ix4 b 0 w 0) = BitVec.ofNat 32 k.val) :
    Host.gather gather_S8x1x512x512_S8x1x512x1_S8x1x1x512_1_2_03_02_2_3_1111 x idx (ix4 b 0 0 w) = x (ix4 b 0 k w) := by
  unfold Host.gather
  refine congrArg x (funext fun a => Fin.ext ?_)
  match a with
  | ⟨0, _⟩ => show 0 + b.val + 0 = b.val; omega
  | ⟨1, _⟩ => rfl
  | ⟨2, _⟩ =>
    have e : gather_S8x1x512x512_S8x1x512x1_S8x1x1x512_1_2_03_02_2_3_1111.siIdx (ix4 b 0 0 w) ⟨0, by decide⟩ = ix4 b 0 w 0 := by
      funext q; match q with
      | ⟨0, _⟩ => rfl
      | ⟨1, _⟩ => rfl
      | ⟨2, _⟩ => rfl
      | ⟨3, _⟩ => rfl
    show min (idx (gather_S8x1x512x512_S8x1x512x1_S8x1x1x512_1_2_03_02_2_3_1111.siIdx (ix4 b 0 0 w) ⟨0, by decide⟩)).toInt.toNat 511 = k.val
    rw [e, hk, toInt_small _ (by omega)]
    omega
  | ⟨3, _⟩ => show 0 + w.val + 0 = w.val; omega

/-- The later column read at an index. -/
theorem laterR_at (x : FVec Ideal S8x512x512 .f32) (b : Fin 8) (h : Fin 512) (s : Fin 29) (w : Fin 512) :
    laterR x (ix4 b h s w) = if hw : w.val + s.val + 1 < 512 then x (ix3 b h ⟨w.val + s.val + 1, hw⟩) else 0 := by
  rw [laterR, gather1 _ _ b h s w ⟨w.val + s.val + 1, by omega⟩ (startsR_at s w)]
  pointwise
  have e : (FloatOps.sitofp FTy.f32 0#32 : Ideal .f32) = (0 : EReal) := by
    show (((0#32 : BitVec 32).toInt : ℝ) : EReal) = 0
    simp
  rw [e]

/-- Whether the later column is larger, at an index. -/
theorem risesR_at (p : FVec Ideal S8x1x512x512 .f32) (m : FVec Ideal S8x512x512 .f32) (b : Fin 8) (h : Fin 512) (s : Fin 29) (w : Fin 512) :
    risesR p m (ix4 b h s w) = BitVec.ofBool (decide
        (Ideal.liftRound Ideal.roundHalfEven (p (ix4 b 0 h w)) * m (ix3 b h w) -
            (if hw : w.val + s.val + 1 < 512 then Ideal.liftRound Ideal.roundHalfEven (p (ix4 b 0 h ⟨w.val + s.val + 1, hw⟩)) else 0) *
              ((if hw : w.val + s.val + 1 < 512 then m (ix3 b h ⟨w.val + s.val + 1, hw⟩) else 0) * m (ix3 b h w)) <
          0)) := by
  pointwise [risesR, everyR, flatR]
  rw [laterR_at, laterR_at]
  pointwise

end Cert.Loss.Ref

end
-- ==== Proof.RefMedian.lean ====
module

public import proofs.«01_k».proof.Proof.RefAt
public import Idealize.ShloMosaic.Lib.SortFacts

@[expose] public section

set_option maxRecDepth 16384

noncomputable section

/-! # The reference's median of a column -/

namespace Cert.Loss.Ref

open Idealize.ShloMosaic Idealize.ShloMosaic.TcCoe Cert.ReferenceIdeal Cert.ReferenceIdeal.Gen

/-- The count of a column. -/
theorem sizeR_at (a : FVec Ideal S8x1x512x512 .f32) (b : Fin 8) (w : Fin 512) (z : Fin 512 → ℤ) (ha : ∀ h, a (ix4 b 0 h w) = intE (z h)) :
    sizeR a (ix4 b 0 0 w) = BitVec.ofNat 32 (sizeN z) := by
  have e : sizeR a (ix4 b 0 0 w) = Finset.univ.fold IntOp.addi (0#32)
      (fun h : Fin 512 => (BitVec.ofBool (decide (a (ix4 b 0 h w) ≠ 0))).setWidth 32) := by
    pointwise [sizeR]
  rw [e, IndicatorCount.fold_addi_setWidth_eq_card, sizeN]
  refine congrArg (fun s : Finset (Fin 512) => BitVec.ofNat 32 s.card) (Finset.filter_congr fun h _ => ?_)
  rw [ha, ofBool_one, decide_eq_true_iff, intE]
  exact_mod_cast Iff.rfl

/-- The sign of a word. -/
def signH (x : BitVec 32) : BitVec 32 := if x = 0 then 0 else if x.msb = true then -1 else 1

/-- The printed quotient by two, over words. -/
def halfH (x : BitVec 32) : BitVec 32 :=
  Scalar.select (IntOp.andi (IntOp.cmpi .ne (signH x) (signH 2#32)) (IntOp.cmpi .ne (IntOp.remsi .host x 2#32) 0#32))
    (IntOp.subi (IntOp.divsi .host x 2#32) 1#32) (IntOp.divsi .host x 2#32)

/-- The quotient of at most 512. -/
theorem halfH_small : ∀ n : Fin 513, halfH (BitVec.ofNat 32 n.val) = BitVec.ofNat 32 (n.val / 2) := by decide +kernel

/-- The rank of the lower middle entry of at most 512. -/
theorem rankH_small : ∀ n : Fin 513, halfH (IntOp.maxsi (IntOp.subi (BitVec.ofNat 32 n.val) 1#32) 0#32) = BitVec.ofNat 32 ((n.val - 1) / 2) := by
  decide +kernel

/-- The quotient at an index. -/
theorem halfR_at (n : IVec S8x1x1x512 32) (i : S8x1x1x512.Idx) : halfR n i = halfH (n i) := by
  rfl

/-- The rank at an index. -/
theorem rankR_at (n : IVec S8x1x1x512 32) (i : S8x1x1x512.Idx) : rankR n i = halfH (IntOp.maxsi (IntOp.subi (n i) 1#32) 0#32) := by
  rw [rankR, halfR_at]
  rfl

/-- The entry taken at an index. -/
theorem takeR_at (a : FVec Ideal S8x1x512x512 .f32) (k : IVec S8x1x1x512 32) (b : Fin 8) (w r : Fin 512)
    (hk : k (ix4 b 0 0 w) = BitVec.ofNat 32 r.val) : takeR a k (ix4 b 0 0 w) = a (ix4 b 0 r w) := by
  rw [takeR]
  refine gather2 _ _ b w r ?_
  have e : shapeCast S8x1x512x1 (select (cmpi .slt k zeroR) (addi k (broadcastInDim S8x1x1x512 ![] bcast_S_S8x1x1x512 (constantI S_ 32 512#32))) k)
      shapeCasts_S8x1x1x512_S8x1x512x1 (ix4 b 0 w 0)
      = Scalar.select (IntOp.cmpi .slt (k (ix4 b 0 0 w)) 0#32) (IntOp.addi (k (ix4 b 0 0 w)) 512#32) (k (ix4 b 0 0 w)) := by
    pointwise [zeroR]
  have hs : ¬(BitVec.ofNat 32 r.val).slt 0#32 = true := by
    rw [slt_small (by simp only [BitVec.toNat_ofNat]; omega) (by decide)]
    simp
  rw [e, hk, IntOp.cmpi, select_ofBool, if_neg hs]

/-- The comparator is the order of the extended reals. -/
theorem comparator_eq (l r : Ideal .f32) : comparator_f32_d2 l r = BitVec.ofBool (decide ((l : EReal) < r)) := by
  have e : ∀ x : Ideal .f32, Scalar.select (FloatOps.cmpf (F := Ideal) .une x x) (FloatOps.ofBits .f32 0x7FC00000#32)
      (Scalar.select (FloatOps.cmpf (F := Ideal) .oeq x (FloatOps.ofBits .f32 0x00000000#32)) (FloatOps.ofBits .f32 0x00000000#32) x) = x := by
    intro x
    show Scalar.select (Ideal.cmp .une x x) _ (Scalar.select (Ideal.cmp .oeq x (Ideal.ofBits .f32 0x00000000#32)) (Ideal.ofBits .f32 0x00000000#32) x) = x
    rw [Ideal.ofBits_zero_f32, Ideal.cmp, Ideal.cmp, select_ofBool, select_ofBool]
    simp only [decide_eq_true_eq, ne_eq, not_true_eq_false, if_false]
    split_ifs with h
    · exact h.symm
    · rfl
  unfold comparator_f32_d2
  dsimp only
  rw [e, e]
  rfl

/-- The sorted column at a place stands at that place. -/
theorem ranked_sorted (y : Fin 512 → EReal) (r : Fin 512) :
    Ranked y r.val (y (sortedFrom (fun k k' => BitVec.ofBool (decide (y k < y k')) == 1#1) r)) := by
  have hR : (fun k k' : Fin 512 => BitVec.ofBool (decide (y k < y k')) == 1#1) = fun k k' => decide (y k < y k') := by
    funext k k'
    rw [Bool.eq_iff_iff, beq_iff_eq, ofBool_one]
  rw [hR]
  have hinj := sortedFrom_injective (fun k k' : Fin 512 => decide (y k < y k'))
  have hsur := sortedFrom_surjective (fun k k' : Fin 512 => decide (y k < y k'))
  have hno := sortedFrom_noInversion (fun k k' : Fin 512 => decide (y k < y k')) (fun k k' => decide (y k < y k'))
    (fun a b h => by simp only [decide_eq_true_eq, decide_eq_false_iff_not, not_lt] at h ⊢; exact h.le) (fun a b h => h)
    (fun a b c h1 h2 => by simp only [decide_eq_false_iff_not, not_lt] at h1 h2 ⊢; exact h2.trans h1)
  generalize sortedFrom (fun k k' : Fin 512 => decide (y k < y k')) = σ at hinj hsur hno ⊢
  simp only [decide_eq_false_iff_not, not_lt] at hno
  constructor
  · have hsub : (Finset.univ.filter fun h => y h < y (σ r)) ⊆ (Finset.univ.filter fun i : Fin 512 => i.val < r.val).image σ := by
      intro h hh
      simp only [Finset.mem_filter, Finset.mem_univ, true_and, Finset.mem_image] at hh ⊢
      obtain ⟨i, rfl⟩ := hsur h
      refine ⟨i, ?_, rfl⟩
      by_contra hc
      rcases (not_lt.1 hc).eq_or_lt with e | e
      · rw [Fin.ext e] at hh; exact lt_irrefl _ hh
      · exact absurd (hno r i e) (not_le.2 hh)
    refine (Finset.card_le_card hsub).trans (Finset.card_image_le.trans ?_)
    have : (Finset.univ.filter fun i : Fin 512 => i.val < r.val) = Finset.Iio r := by
      ext i; simp only [Finset.mem_filter, Finset.mem_univ, true_and, Finset.mem_Iio, Fin.lt_def]
    rw [this, Fin.card_Iio]
  · have hsub : (Finset.Iic r).image σ ⊆ Finset.univ.filter fun h => y h ≤ y (σ r) := by
      intro h hh
      simp only [Finset.mem_filter, Finset.mem_univ, true_and, Finset.mem_image, Finset.mem_Iic] at hh ⊢
      obtain ⟨i, hi, rfl⟩ := hh
      rcases hi.eq_or_lt with e | e
      · rw [e]
      · exact hno i r e
    have := Finset.card_le_card hsub
    rw [Finset.card_image_of_injective _ hinj, Fin.card_Iic] at this
    omega

/-- The sorted array at an index. -/
theorem sort_at (x : FVec Ideal S8x1x512x512 .f32) (b : Fin 8) (r w : Fin 512) : Host.sort S8x1x512x512 2 comparator_f32_d2 x (ix4 b 0 r w)
    = x (ix4 b 0 (sortedFrom (fun k k' => comparator_f32_d2 (x (ix4 b 0 k w)) (x (ix4 b 0 k' w)) == 1#1) r) w) := by
  have hal : ∀ k, (ix4 b 0 r w : S8x1x512x512.Idx).along (2 : Fin 4) k = ix4 b 0 k w := by
    intro k
    funext a
    match a with
    | ⟨0, _⟩ => rfl
    | ⟨1, _⟩ => rfl
    | ⟨2, _⟩ => rfl
    | ⟨3, _⟩ => rfl
  have e : Host.sort S8x1x512x512 2 comparator_f32_d2 x (ix4 b 0 r w)
    = x ((ix4 b 0 r w : S8x1x512x512.Idx).along (2 : Fin 4) (sortedFrom (fun k k' => comparator_f32_d2
      (x ((ix4 b 0 r w : S8x1x512x512.Idx).along (2 : Fin 4) k)) (x ((ix4 b 0 r w : S8x1x512x512.Idx).along (2 : Fin 4) k')) == 1#1) r)) := rfl
  rw [e, hal]
  simp only [hal]
  rfl

/-- A sorted column of whole numbers, zeros last. -/
theorem sortedR_at (a : FVec Ideal S8x1x512x512 .f32) (b : Fin 8) (w r : Fin 512) (z : Fin 512 → ℤ) (ha : ∀ h, a (ix4 b 0 h w) = intE (z h)) :
    Ranked (aliveZ z) r.val (sortedR a (ix4 b 0 r w)) := by
  have hx : ∀ k : Fin 512, select (cmpf .oeq a (broadcastInDim S8x1x512x512 ![] bcast_S_S8x1x512x512 (constant S_ .f32 0x00000000#32)))
      (broadcastInDim S8x1x512x512 ![] bcast_S_S8x1x512x512 (id (constant S_ .f32 0x7F800000#32))) a (ix4 b 0 k w) = aliveZ z k := by
    intro k
    have e : select (cmpf .oeq a (broadcastInDim S8x1x512x512 ![] bcast_S_S8x1x512x512 (constant S_ .f32 0x00000000#32)))
      (broadcastInDim S8x1x512x512 ![] bcast_S_S8x1x512x512 (id (constant S_ .f32 0x7F800000#32))) a (ix4 b 0 k w)
      = Scalar.select (Ideal.cmp .oeq (a (ix4 b 0 k w)) (Ideal.ofBits .f32 0x00000000#32)) (Ideal.ofBits .f32 0x7F800000#32) (a (ix4 b 0 k w)) := rfl
    rw [e, Ideal.ofBits_zero_f32, ofBits_inf, aliveZ, ha, aliveE]
  rw [sortedR, sort_at]
  simp only [hx, comparator_eq]
  exact ranked_sorted (aliveZ z) r

/-- The reference's median of a column of whole numbers is the median of its entries other than zero. -/
theorem medianR_at (a : FVec Ideal S8x1x512x512 .f32) (b : Fin 8) (w : Fin 512) (z : Fin 512 → ℤ) (ha : ∀ h, a (ix4 b 0 h w) = intE (z h)) :
    MedianOf z (medianR a (ix4 b 0 0 w)) := by
  have hle := sizeN_le z
  have hn := sizeR_at a b w z ha
  have hlo : rankR (sizeR a) (ix4 b 0 0 w) = BitVec.ofNat 32 ((sizeN z - 1) / 2) := by
    rw [rankR_at, hn]; exact rankH_small ⟨sizeN z, by omega⟩
  have hhi : halfR (sizeR a) (ix4 b 0 0 w) = BitVec.ofNat 32 (sizeN z / 2) := by
    rw [halfR_at, hn]; exact halfH_small ⟨sizeN z, by omega⟩
  have e : medianR a (ix4 b 0 0 w) = Scalar.select (IntOp.cmpi .eq (sizeR a (ix4 b 0 0 w)) 0#32) (Ideal.ofBits .f32 0x00000000#32)
      ((takeR (sortedR a) (rankR (sizeR a)) (ix4 b 0 0 w) + takeR (sortedR a) (halfR (sizeR a)) (ix4 b 0 0 w)) * Ideal.ofBits .f32 0x3F000000#32) := rfl
  have hz : IntOp.cmpi .eq (BitVec.ofNat 32 (sizeN z)) 0#32 = BitVec.ofBool (decide (sizeN z = 0)) := eqW_small ⟨sizeN z, by omega⟩
  rw [e, takeR_at (sortedR a) _ b w ⟨(sizeN z - 1) / 2, by omega⟩ hlo, takeR_at (sortedR a) _ b w ⟨sizeN z / 2, by omega⟩ hhi,
    hn, hz, select_ofBool, Ideal.ofBits_zero_f32]
  refine ⟨_, _, fun _ => ⟨sortedR_at a b w ⟨(sizeN z - 1) / 2, by omega⟩ z ha, sortedR_at a b w ⟨sizeN z / 2, by omega⟩ z ha⟩, ?_⟩
  simp only [decide_eq_true_eq]

end Cert.Loss.Ref

end
-- ==== Proof.Image.lean ====
module

public import proofs.«01_k».proof.Proof.RefMedian

@[expose] public section

set_option maxRecDepth 16384

noncomputable section

/-! # One image read at an index -/

namespace Cert.Loss

open Idealize.ShloMosaic Cert.KernelIdeal Cert.KernelIdeal.Gen

/-- The rounded predictions at an index. -/
theorem roundedV_at (x : Vec Ideal S1x512x512 .f32) (h w : Fin 512) :
    roundedV x (ix2 h w) = Ideal.liftRound Ideal.roundHalfEven (x (ix3 0 h w)) := by
  pointwise [roundedV]

/-- The mask at an index. -/
theorem maskV_at (y : Vec Ideal S1x512x512 .f32) (h w : Fin 512) : maskV y (ix2 h w) = y (ix3 0 h w) := by
  pointwise [maskV]

/-- The padded image at an index. -/
theorem paddedV_at (a : FVec Ideal S512x512 .f32) (h : Fin 512) (v : Fin 640) :
    paddedV a (ix2 h v) = if hv : v.val < 512 then a (ix2 h ⟨v.val, hv⟩) else 0 := by
  pointwise [paddedV]

/-- A rotated image at an index. -/
theorem rolledV_at (x : FVec Ideal S512x640 .f32) (s : ℕ) (hs : s ≤ 640) (h : Fin 512) (v : Fin 640) (hv : v.val + s < 640) :
    rolledV x s hs (ix2 h v) = x (ix2 h ⟨v.val + s, hv⟩) := by
  pointwise [rolledV]
  rw [dif_pos (by omega)]
  refine congrArg x (funext fun a => Fin.ext ?_)
  match a with
  | ⟨0, _⟩ => rfl
  | ⟨1, _⟩ => show s + v.val = v.val + s; omega

/-- The entry of a row `s + 1` columns later, zero beyond the last. -/
def later (z : Fin 512 → ℤ) (w : Fin 512) (s : ℕ) : ℤ := if hv : w.val + s + 1 < 512 then z ⟨w.val + s + 1, hv⟩ else 0

/-- How many of the next `k` entries of a row are larger. -/
def rises (z : Fin 512 → ℤ) (w : Fin 512) (k : ℕ) : ℕ := ∑ s ∈ Finset.range k, if z w < later z w s then 1 else 0

/-- At most `k` of them are. -/
theorem rises_le (z : Fin 512 → ℤ) (w : Fin 512) (k : ℕ) : rises z w k ≤ k := by
  unfold rises
  refine (Finset.sum_le_card_nsmul _ _ 1 fun s _ => ?_).trans (by simp)
  split_ifs <;> simp

/-- The count of larger entries at an index. -/
theorem countV_at (a : FVec Ideal S512x512 .f32) (h : Fin 512) (z : Fin 512 → ℤ) (ha : ∀ w, a (ix2 h w) = intE (z w))
    (w : Fin 512) (k : ℕ) (hk : k ≤ 29) :
    countV (paddedV a) k hk (ix2 h ⟨w.val, by omega⟩) = BitVec.ofNat 32 (rises z w k) := by
  induction k with
  | zero => rfl
  | succ k ih =>
    have e : countV (paddedV a) (k + 1) hk (ix2 h ⟨w.val, by omega⟩)
        = countV (paddedV a) k (Nat.le_of_succ_le hk) (ix2 h ⟨w.val, by omega⟩)
          + (Ideal.cmp .olt (paddedV a (ix2 h ⟨w.val, by omega⟩))
            (rolledV (paddedV a) (k + 1) (hk.trans (by decide)) (ix2 h ⟨w.val, by omega⟩))).setWidth 32 := rfl
    have e1 : paddedV a (ix2 h ⟨w.val, by omega⟩) = intE (z w) := by
      rw [paddedV_at, dif_pos w.isLt]; exact ha w
    have e2 : rolledV (paddedV a) (k + 1) (hk.trans (by decide)) (ix2 h ⟨w.val, by omega⟩) = intE (later z w k) := by
      rw [rolledV_at _ _ _ h ⟨w.val, by omega⟩ (by dsimp only; omega), paddedV_at, later]
      by_cases hv : w.val + k + 1 < 512
      · rw [dif_pos (show w.val + (k + 1) < 512 by omega), dif_pos hv]; exact ha _
      · rw [dif_neg (show ¬w.val + (k + 1) < 512 by omega), dif_neg hv]; simp [intE]
    have e3 : rises z w (k + 1) = rises z w k + if z w < later z w k then 1 else 0 := Finset.sum_range_succ _ _
    rw [e, ih, e1, e2, e3, Ideal.cmp]
    by_cases hlt : z w < later z w k
    · rw [decide_eq_true (intE_lt.2 hlt), if_pos hlt]
      simp [BitVec.ofNat_add]
    · rw [decide_eq_false (fun h' => hlt (intE_lt.1 h')), if_neg hlt]
      simp

/-- What an image adds to the first accumulator, at an index. -/
theorem descV_at (x y : Vec Ideal S1x512x512 .f32) (h : Fin 512) (z : Fin 512 → ℤ) (μ : Fin 512 → ℤ)
    (ha : ∀ w, maskedV x y (ix2 h w) = intE (z w)) (hy : ∀ w, y (ix3 0 h w) = intE (μ w)) (w : Fin 512) :
    descV x y (ix2 h w) = intE ((rises z w 29 : ℤ) * μ w) := by
  have e : descV x y (ix2 h w) = (((countV (paddedV (maskedV x y)) 29 le_rfl (ix2 h ⟨w.val, by omega⟩)).toInt : ℝ) : EReal) * maskV y (ix2 h w) := by
    pointwise [descV]
    rfl
  have hle := rises_le z w 29
  rw [e, countV_at _ h z ha, maskV_at, hy, BitVec.toInt_eq_toNat_of_lt (by simp only [BitVec.toNat_ofNat]; omega), BitVec.toNat_ofNat,
    Nat.mod_eq_of_lt (by omega), intE, intE, ← EReal.coe_mul, ← Int.cast_mul]

/-- What an image adds to the second accumulator, at an index. -/
theorem offV_at (x y : Vec Ideal S1x512x512 .f32) (h w : Fin 512) :
    offV x y (ix2 h w) = if roundedV x (ix2 h w) ≠ medianV (maskedV x y) (ix2 0 w) then (1 : EReal) else 0 := by
  have e : offV x y (ix2 h w) = (((((Ideal.cmp .one (roundedV x (ix2 h w)) (medianV (maskedV x y) (ix2 0 w))).setWidth 32).toInt : ℝ)) : EReal) := by
    pointwise [offV]
    rfl
  rw [e, Ideal.cmp]
  split_ifs with hc
  · rw [decide_eq_true hc]; simp
  · rw [decide_eq_false hc]; simp

end Cert.Loss

end
-- ==== Proof.Whole.lean ====
module

public import proofs.«01_k».proof.Proof.Image
public import proofs.«01_k».proof.Proof.Gen.Pre_mask_of_bits

@[expose] public section

set_option maxRecDepth 16384

noncomputable section

/-! # The inputs the precondition admits, as whole numbers -/

namespace Cert.Loss

open Idealize.ShloMosaic Cert.KernelIdeal Cert.KernelIdeal.Gen

/-! ## Whole numbers among the extended reals -/

/-- Sums of whole numbers. -/
theorem intE_add (a b : ℤ) : intE a + intE b = intE (a + b) := by
  unfold intE; rw [← EReal.coe_add, ← Int.cast_add]

/-- Differences of whole numbers. -/
theorem intE_sub (a b : ℤ) : intE a - intE b = intE (a - b) := by
  unfold intE; rw [← EReal.coe_sub, ← Int.cast_sub]

/-- Products of whole numbers. -/
theorem intE_mul (a b : ℤ) : intE a * intE b = intE (a * b) := by
  unfold intE; rw [← EReal.coe_mul, ← Int.cast_mul]

/-- Zero. -/
theorem intE_zero : intE 0 = 0 := by simp [intE]

/-- One. -/
theorem intE_one : intE 1 = 1 := by simp [intE]

/-- Whole numbers are told apart. -/
theorem intE_inj {a b : ℤ} : intE a = intE b ↔ a = b := by
  unfold intE; rw [EReal.coe_eq_coe_iff, Int.cast_inj]

/-- Finite sums of whole numbers. -/
theorem intE_sum {ι : Type*} (s : Finset ι) (f : ι → ℤ) : ∑ i ∈ s, intE (f i) = intE (∑ i ∈ s, f i) := by
  classical
  induction s using Finset.induction_on with
  | empty => rw [Finset.sum_empty, Finset.sum_empty, intE_zero]
  | insert a s ha ih => rw [Finset.sum_insert ha, Finset.sum_insert ha, ih, intE_add]

/-- The greatest admitted prediction. -/
theorem ofBits_hi : Ideal.ofBits .f32 0x4B800000#32 = intE 16777216 := by
  simp [Ideal.ofBits, Ideal.ieee, intE]
  rw [← EReal.coe_mul]
  norm_num

/-- The least admitted prediction. -/
theorem ofBits_lo : Ideal.ofBits .f32 0xCB800000#32 = intE (-16777216) := by
  simp [Ideal.ofBits, Ideal.ieee, intE]
  rw [← EReal.coe_mul]
  norm_num

/-- The weight of the first part. -/
theorem ofBits_weight : Ideal.ofBits .f32 0x41A00000#32 = intE 20 := by
  simp [Ideal.ofBits, Ideal.ieee, intE]
  rw [← EReal.coe_mul]
  norm_num

/-- The number of entries. -/
theorem ofBits_count : Ideal.ofBits .f32 0x4A000000#32 = intE 2097152 := by
  simp [Ideal.ofBits, Ideal.ieee, intE]
  rw [← EReal.coe_mul]
  norm_num

/-- Rounding to the nearest whole number keeps whole bounds. -/
theorem round_bounds (r : ℝ) (n : ℤ) (h1 : -(n : ℝ) ≤ r) (h2 : r ≤ n) :
    -n ≤ Ideal.roundHalfEven r ∧ Ideal.roundHalfEven r ≤ n := by
  have f1 : -n ≤ ⌊r⌋ := Int.le_floor.2 (by push_cast; exact h1)
  have f2 : ⌊r⌋ ≤ n := by
    have := (Int.floor_le r).trans h2
    exact_mod_cast this
  have f3 : ⌊r⌋ = n → r - ⌊r⌋ < 1 / 2 := fun h => by rw [h]; linarith
  unfold Ideal.roundHalfEven
  dsimp only
  split_ifs with c1 c2 c3
  · omega
  · have : ⌊r⌋ ≠ n := fun h => c1 (f3 h)
    omega
  · omega
  · have : ⌊r⌋ ≠ n := fun h => c1 (f3 h)
    omega

/-- The predictions `p` round to the whole numbers `q`, bounded by two to the 24th, and the mask `y` is `μ`, zero or one. -/
structure Whole (p : FVec Ideal S8x1x512x512 .f32) (y : FVec Ideal S8x512x512 .f32) (q μ : Fin 8 → Fin 512 → Fin 512 → ℤ) : Prop where
  pred : ∀ b h w, Ideal.liftRound Ideal.roundHalfEven (p (ix4 b 0 h w)) = intE (q b h w)
  mask : ∀ b h w, y (ix3 b h w) = intE (μ b h w)
  bound : ∀ b h w, -16777216 ≤ q b h w ∧ q b h w ≤ 16777216
  bit : ∀ b h w, μ b h w = 0 ∨ μ b h w = 1

/-- The precondition at an index. -/
theorem pre_at (x p y) (b : Fin 8) (h w : Fin 512) : Pre_mask_of_bits.fn (F := Ideal) x p y (ix3 b h w)
    = IntOp.andi (IntOp.andi (IntOp.ori (Ideal.cmp .oeq (y (ix3 b h w)) (Ideal.ofBits .f32 0x00000000#32))
      (Ideal.cmp .oeq (y (ix3 b h w)) (Ideal.ofBits .f32 0x3F800000#32)))
      (Ideal.cmp .ole (p (ix4 b 0 h w)) (Ideal.ofBits .f32 0x4B800000#32)))
      (Ideal.cmp .oge (p (ix4 b 0 h w)) (Ideal.ofBits .f32 0xCB800000#32)) := by
  pointwise [Pre_mask_of_bits.fn]

/-- A conjunction of bits is one when both are. -/
theorem andi_one : ∀ a b : BitVec 1, IntOp.andi a b = 1#1 ↔ a = 1#1 ∧ b = 1#1 := by decide

/-- A disjunction of bits is one when one of them is. -/
theorem ori_one : ∀ a b : BitVec 1, IntOp.ori a b = 1#1 ↔ a = 1#1 ∨ b = 1#1 := by decide

/-- What the precondition says at an index. -/
theorem pre_iff (x p y) (b : Fin 8) (h w : Fin 512) (hp : Pre_mask_of_bits.fn (F := Ideal) x p y = fun _ => 1#1) :
    (y (ix3 b h w) = 0 ∨ y (ix3 b h w) = 1) ∧ p (ix4 b 0 h w) ≤ intE 16777216 ∧ intE (-16777216) ≤ p (ix4 b 0 h w) := by
  have e := pre_at x p y b h w
  rw [hp] at e
  have e' := e.symm
  rw [andi_one, andi_one, ori_one, Ideal.ofBits_zero_f32, Ideal.ofBits_one_f32, ofBits_hi, ofBits_lo] at e'
  simp only [Ideal.cmp, ofBool_one, decide_eq_true_iff] at e'
  exact ⟨e'.1.1, e'.1.2, e'.2⟩

/-- The inputs the precondition admits are whole numbers once rounded. -/
theorem exists_whole (x p y) (hp : Pre_mask_of_bits.fn (F := Ideal) x p y = fun _ => 1#1) : ∃ q μ, Whole p y q μ := by
  have hq : ∀ b h w, ∃ n : ℤ, Ideal.liftRound Ideal.roundHalfEven (p (ix4 b 0 h w)) = intE n ∧ -16777216 ≤ n ∧ n ≤ 16777216 := by
    intro b h w
    obtain ⟨-, h1, h2⟩ := pre_iff x p y b h w hp
    generalize p (ix4 b 0 h w) = e at h1 h2
    induction e using EReal.rec with
    | bot => exact absurd h2 (by simp [intE])
    | top => exact absurd h1 (by simp [intE])
    | coe r =>
      have h1' : r ≤ ((16777216 : ℤ) : ℝ) := EReal.coe_le_coe_iff.1 h1
      have h2' : ((-16777216 : ℤ) : ℝ) ≤ r := EReal.coe_le_coe_iff.1 h2
      exact ⟨_, rfl, round_bounds r 16777216 (by rw [← Int.cast_neg]; exact h2') h1'⟩
  have hm : ∀ b h w, ∃ n : ℤ, y (ix3 b h w) = intE n ∧ (n = 0 ∨ n = 1) := by
    intro b h w
    rcases (pre_iff x p y b h w hp).1 with h0 | h1
    · exact ⟨0, h0.trans intE_zero.symm, Or.inl rfl⟩
    · exact ⟨1, h1.trans intE_one.symm, Or.inr rfl⟩
  choose q hq1 hq2 using hq
  choose μ hm1 hm2 using hm
  exact ⟨q, μ, hq1, hm1, hq2, hm2⟩

end Cert.Loss

end
-- ==== Proof.Total.lean ====
module

public import proofs.«01_k».proof.Proof.Whole

@[expose] public section

set_option maxRecDepth 16384

noncomputable section

/-! # The kernel's result and the reference's are the same total -/

namespace Cert.Loss

open Idealize.ShloMosaic Cert.KernelIdeal Cert.KernelIdeal.Gen

/-! ## The totals, over the whole numbers -/

/-- A row of an image, rounded and masked. -/
def rowZ (q μ : Fin 8 → Fin 512 → Fin 512 → ℤ) (b : Fin 8) (h : Fin 512) : Fin 512 → ℤ := fun w => q b h w * μ b h w

/-- The first sum: the masked counts of larger later entries. -/
def descZ (q μ : Fin 8 → Fin 512 → Fin 512 → ℤ) (b : Fin 8) (h w : Fin 512) : ℤ := (rises (rowZ q μ b h) w 29 : ℤ) * μ b h w

open scoped Classical in
/-- One where a rounded prediction is not its column's median. -/
def offZ (p : FVec Ideal S8x1x512x512 .f32) (y : FVec Ideal S8x512x512 .f32) (q : Fin 8 → Fin 512 → Fin 512 → ℤ)
    (b : Fin 8) (h w : Fin 512) : ℤ :=
  if intE (q b h w) ≠ Ref.medianR (Ref.maskedR p y) (ix4 b 0 0 w) then 1 else 0

/-- The quotient of whole numbers, as both programs end. -/
def quotE (n : ℤ) : EReal := Ideal.div (intE n) (intE 2097152)

/-! ## The kernel -/

/-- An accumulator over the eight images, at an index. -/
theorem runV_at (g : ℕ → FVec Ideal S512x512 .f32) (f : Fin 8 → ℤ) (i : S512x512.Idx) (hg : ∀ b : Fin 8, g b.val i = intE (f b)) :
    runV g 7 i = intE (∑ b, f b) := by
  have key : ∀ n, runV g n i = ∑ k ∈ Finset.range (n + 1), g k i := by
    intro n
    induction n with
    | zero =>
      have e : runV g 0 i = Ideal.ofBits .f32 0x00000000#32 + g 0 i := rfl
      rw [e, Ideal.ofBits_zero_f32, zero_add, zero_add, Finset.sum_range_one]
    | succ n ih =>
      have e : runV g (n + 1) i = runV g n i + g (n + 1) i := rfl
      rw [e, ih, ← Finset.sum_range_succ]
  rw [key, Finset.sum_range, ← intE_sum]
  exact Finset.sum_congr rfl fun b _ => hg b

/-- Masked predictions of one image at an index. -/
theorem maskedV_at (x y : Vec Ideal S1x512x512 .f32) (h w : Fin 512) : maskedV x y (ix2 h w) = roundedV x (ix2 h w) * maskV y (ix2 h w) := by
  pointwise [maskedV]

/-- Masked predictions of the reference at an index. -/
theorem maskedR_at (p : FVec Ideal S8x1x512x512 .f32) (y : FVec Ideal S8x512x512 .f32) (b : Fin 8) (h w : Fin 512) :
    Ref.maskedR p y (ix4 b 0 h w) = Ideal.liftRound Ideal.roundHalfEven (p (ix4 b 0 h w)) * y (ix3 b h w) := by
  pointwise [Ref.maskedR]

/-- The medians of the kernel and of the reference agree. -/
theorem median_eq {p y q μ} (hw : Whole p y q μ) (x m : Vec Ideal S1x512x512 .f32) (b : Fin 8)
    (hx : ∀ h w, x (ix3 0 h w) = p (ix4 b 0 h w)) (hm : ∀ h w, m (ix3 0 h w) = y (ix3 b h w)) (w : Fin 512) :
    medianV (maskedV x m) (ix2 0 w) = Ref.medianR (Ref.maskedR p y) (ix4 b 0 0 w) := by
  refine MedianOf.unique (z := fun h => q b h w * μ b h w) (medianV_at _ w _ (fun h => ?_) (fun h => ?_)) (Ref.medianR_at _ b w _ fun h => ?_)
  · rw [maskedV_at, roundedV_at, maskV_at, hx, hm, hw.pred, hw.mask, intE_mul]
  · have h1 := hw.bound b h w
    rcases hw.bit b h w with h0 | h0 <;> rw [h0] <;> omega
  · rw [maskedR_at, hw.pred, hw.mask, intE_mul]

/-- The kernel's total. -/
theorem kernel_total {p y q μ} (hw : Whole p y q μ) (x m : ℕ → Vec Ideal S1x512x512 .f32)
    (hx : ∀ (b : Fin 8) h w, x b.val (ix3 0 h w) = p (ix4 b 0 h w)) (hm : ∀ (b : Fin 8) h w, m b.val (ix3 0 h w) = y (ix3 b h w)) :
    totalV (runV (fun k => descV (x k) (m k)) 7) (runV (fun k => offV (x k) (m k)) 7) (runV (fun k => maskV (m k)) 7) (ix2 0 0)
      = quotE (∑ h, ∑ w, ((∑ b, descZ q μ b h w) * 20 + (∑ b, offZ p y q b h w) * ∑ b, μ b h w)) := by
  rw [totalV_at, ofBits_weight, ofBits_count, quotE, ← intE_sum]
  refine congrArg (fun e => Ideal.div e (intE 2097152)) (Finset.sum_congr rfl fun h _ => ?_)
  rw [← intE_sum]
  refine Finset.sum_congr rfl fun w _ => ?_
  rw [runV_at _ (fun b => descZ q μ b h w) _ fun b => ?_, runV_at _ (fun b => offZ p y q b h w) _ fun b => ?_,
    runV_at _ (fun b => μ b h w) _ fun b => ?_, intE_mul, intE_mul, intE_add]
  · rw [maskV_at, hm, hw.mask]
  · rw [offV_at, median_eq hw (x b.val) (m b.val) b (hx b) (hm b), roundedV_at, hx, hw.pred, offZ]
    split_ifs
    · exact intE_one.symm
    · exact intE_zero.symm
  · exact descV_at _ _ h (rowZ q μ b h) (μ b h) (fun w => by rw [maskedV_at, roundedV_at, maskV_at, hx, hm, hw.pred, hw.mask, intE_mul, rowZ])
      (fun w => by rw [hm, hw.mask]) w

/-! ## The reference -/

/-- A sum over every axis, at the one index there is. -/
theorem reduce_all {s : Shape} {axes : List (Fin s.rank)} (h : s.ReducesTo axes Cert.ReferenceIdeal.S_) (x : s.Idx → EReal) (j : Cert.ReferenceIdeal.S_.Idx) :
    Ideal.hostReduceAdd h x 0 j = ∑ i, x i := by
  unfold Ideal.hostReduceAdd
  rw [zero_add, Finset.filter_true_of_mem fun i _ => Subsingleton.elim (α := Cert.ReferenceIdeal.S_.Idx) _ _]

/-- A bit as a number. -/
theorem bit_intE (b : Prop) [Decidable b] : (((BitVec.ofBool (decide b)).toNat : ℝ) : EReal) = intE (if b then 1 else 0) := by
  split_ifs with hb
  · rw [decide_eq_true hb]; simp [intE]
  · rw [decide_eq_false hb]; simp [intE]

/-- The reference's count of larger later entries, at an index. -/
theorem risesR_bit {p y q μ} (hw : Whole p y q μ) (b : Fin 8) (h : Fin 512) (s : Fin 29) (w : Fin 512) :
    uitofp (F := Ideal) .f32 (Ref.risesR p y) (ix4 b h s w)
      = intE ((if rowZ q μ b h w < later (rowZ q μ b h) w s.val then 1 else 0) * μ b h w) := by
  have e : uitofp (F := Ideal) .f32 (Ref.risesR p y) (ix4 b h s w) = (((Ref.risesR p y (ix4 b h s w)).toNat : ℝ) : EReal) := rfl
  rw [e, Ref.risesR_at, bit_intE, intE_inj, hw.pred, hw.mask]
  by_cases hv : w.val + s.val + 1 < 512
  · simp only [dif_pos hv, later, hw.pred, hw.mask, intE_mul, intE_sub, ← intE_zero, intE_lt, rowZ]
    rcases hw.bit b h w with h0 | h0
    · simp [h0]
    · simp [h0, sub_neg]
  · simp only [dif_neg hv, later, zero_mul, sub_zero, intE_mul, ← intE_zero, intE_lt, rowZ, intE_sub]
    rcases hw.bit b h w with h0 | h0
    · simp [h0]
    · simp [h0]

/-- Where the reference finds a prediction off its median, at an index. -/
theorem offR_at (p : FVec Ideal S8x1x512x512 .f32) (y : FVec Ideal S8x512x512 .f32) (b b' : Fin 8) (h w : Fin 512) :
    Ref.offR p y (ix4 b b' h w) = BitVec.ofBool (decide ((Ideal.liftRound Ideal.roundHalfEven (p (ix4 b 0 h w))
      - Ref.medianR (Ref.maskedR p y) (ix4 b 0 0 w)) * y (ix3 b' h w) ≠ 0)) := by
  pointwise [Ref.offR]

/-- A whole number less another value is zero when they are equal. -/
theorem intE_sub_eq_zero (a : ℤ) (e : EReal) : intE a - e = 0 ↔ intE a = e := by
  unfold intE
  induction e using EReal.rec with
  | bot => simp
  | top => simp
  | coe r => rw [← EReal.coe_sub, EReal.coe_eq_zero, sub_eq_zero, EReal.coe_eq_coe_iff]

/-- The reference's second part, at an index. -/
theorem offR_bit {p y q μ} (hw : Whole p y q μ) (b b' : Fin 8) (h w : Fin 512) :
    uitofp (F := Ideal) .f32 (Ref.offR p y) (ix4 b b' h w) = intE (offZ p y q b h w * μ b' h w) := by
  have e : uitofp (F := Ideal) .f32 (Ref.offR p y) (ix4 b b' h w) = (((Ref.offR p y (ix4 b b' h w)).toNat : ℝ) : EReal) := rfl
  rw [e, offR_at, bit_intE, intE_inj, hw.pred, hw.mask, offZ]
  rcases hw.bit b' h w with h0 | h0
  · simp [h0, intE_zero]
  · simp only [h0, intE_one, mul_one, ne_eq, intE_sub_eq_zero]

/-- The reference's loss as sums over every axis. -/
theorem lossR_at (p : FVec Ideal S8x1x512x512 .f32) (y : FVec Ideal S8x512x512 .f32) : Ref.lossR p y (ix2 0 0)
    = Ideal.div (Ideal.hostReduceAdd Cert.ReferenceIdeal.Gen.reducesTo_S8x512x29x512_S_d0_1_2_3 (uitofp (F := Ideal) .f32 (Ref.risesR p y)) 0 ix0)
        (Ideal.ofBits .f32 0x4A000000#32) * Ideal.ofBits .f32 0x41A00000#32
      + Ideal.div (Ideal.hostReduceAdd Cert.ReferenceIdeal.Gen.reducesTo_S8x8x512x512_S_d0_1_2_3 (uitofp (F := Ideal) .f32 (Ref.offR p y)) 0 ix0)
        (Ideal.ofBits .f32 0x4A000000#32) := by
  pointwise [Ref.lossR]

/-- The reference's total. -/
theorem ref_total {p y q μ} (hw : Whole p y q μ) : Ref.lossR p y (ix2 0 0)
    = quotE (∑ b, ∑ h, ∑ s : Fin 29, ∑ w, (if rowZ q μ b h w < later (rowZ q μ b h) w s.val then 1 else 0) * μ b h w) * intE 20
      + quotE (∑ b, ∑ b', ∑ h, ∑ w, offZ p y q b h w * μ b' h w) := by
  rw [lossR_at, ofBits_weight, ofBits_count, reduce_all, reduce_all, sum_idx4, sum_idx4]
  simp only [risesR_bit hw, offR_bit hw, intE_sum]
  rfl

/-! ## The two agree -/

/-- A weighted sum of quotients is the quotient of the weighted sum. -/
theorem quotE_add (a b : ℤ) : quotE a * intE 20 + quotE b = quotE (a * 20 + b) := by
  have e : ∀ n : ℤ, quotE n = (((n : ℝ) * (1 / 2097152) : ℝ) : EReal) := fun n => by
    unfold quotE intE
    rw [Ideal.div_coe (by norm_num), ← EReal.coe_mul]
    norm_num
  rw [e, e, e, intE, ← EReal.coe_mul, ← EReal.coe_add]
  congr 1
  push_cast
  ring

/-- A sum over images, taken outside. -/
theorem sum_images (f : Fin 8 → Fin 512 → Fin 512 → ℤ) : ∑ h, ∑ w, ∑ b, f b h w = ∑ b, ∑ h, ∑ w, f b h w := by
  have e : ∀ h, ∑ w, ∑ b, f b h w = ∑ b, ∑ w, f b h w := fun h => Finset.sum_comm
  rw [Finset.sum_congr rfl fun h _ => e h, Finset.sum_comm]

/-- The first sums agree. -/
theorem desc_sum (q μ : Fin 8 → Fin 512 → Fin 512 → ℤ) (b : Fin 8) (h : Fin 512) :
    ∑ s : Fin 29, ∑ w, (if rowZ q μ b h w < later (rowZ q μ b h) w s.val then 1 else 0) * μ b h w = ∑ w, descZ q μ b h w := by
  rw [Finset.sum_comm]
  refine Finset.sum_congr rfl fun w _ => ?_
  rw [descZ, rises, Finset.sum_range, Nat.cast_sum, Finset.sum_mul]
  refine Finset.sum_congr rfl fun s _ => ?_
  push_cast
  rfl

/-- The sums agree. -/
theorem sums_eq (p y) (q μ : Fin 8 → Fin 512 → Fin 512 → ℤ) :
    (∑ h, ∑ w, ((∑ b, descZ q μ b h w) * 20 + (∑ b, offZ p y q b h w) * ∑ b, μ b h w))
      = (∑ b, ∑ h, ∑ s : Fin 29, ∑ w, (if rowZ q μ b h w < later (rowZ q μ b h) w s.val then 1 else 0) * μ b h w) * 20
        + ∑ b, ∑ b', ∑ h, ∑ w, offZ p y q b h w * μ b' h w := by
  simp only [desc_sum, Finset.sum_add_distrib, ← Finset.sum_mul, Finset.sum_mul_sum]
  rw [sum_images, sum_images fun b h w => ∑ b', offZ p y q b h w * μ b' h w]
  refine congrArg₂ (· + ·) rfl (Finset.sum_congr rfl fun b _ => ?_)
  exact sum_images fun b' h w => offZ p y q b h w * μ b' h w

/-- The kernel's result, over any blocks that read the inputs, is the reference's loss. -/
theorem total_eq (x0 p y) (hp : Pre_mask_of_bits.fn (F := Ideal) x0 p y = fun _ => 1#1) (x m : ℕ → Vec Ideal S1x512x512 .f32)
    (hx : ∀ (b : Fin 8) h w, x b.val (ix3 0 h w) = p (ix4 b 0 h w)) (hm : ∀ (b : Fin 8) h w, m b.val (ix3 0 h w) = y (ix3 b h w)) :
    totalV (runV (fun k => descV (x k) (m k)) 7) (runV (fun k => offV (x k) (m k)) 7) (runV (fun k => maskV (m k)) 7)
      = Ref.lossR p y := by
  obtain ⟨q, μ, hw⟩ := exists_whole x0 p y hp
  funext i
  have hi : i = ix2 0 0 := by
    rw [eq_ix2 i]
    exact (ix2_inj _ _ _ _).2 ⟨Subsingleton.elim (α := Fin 1) _ _, Subsingleton.elim (α := Fin 1) _ _⟩
  rw [hi, kernel_total hw x m hx hm, ref_total hw, quotE_add, sums_eq]

end Cert.Loss

end
-- ==== Proof.lean ====
/- The claims of this certificate: every program runs, ends with its arguments unchanged and every semaphore at zero;
   the idealized kernel keeps the kernel's control flow; and, of inputs whose mask is zeros and ones and whose
   predictions are within two to the 24th in size, the kernel's loss and the reference's are equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_mask_of_bits
public import proofs.«01_k».proof.Proof.Total
public import Idealize.ShloMosaic.Adequacy
public import Idealize.ShloMosaic.Init

@[expose] public section

noncomputable section

namespace Cert.Proof

open Idealize.ShloMosaic Idealize.SL.Sem Cert.Kernel

/-- The kernel's result and the reference's, of inputs the precondition admits, are equal. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hp : Cert.Pre_KernelIdeal_mask_of_bits m)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.res_main_v78 m' c = (Cert.KernelIdeal.Value.G2 m c : Vec Ideal Cert.KernelIdeal.S1x1 .f32) := by
  rw [Cert.Loss.Ref.res_eq, h1, h2, Cert.Loss.result_eq]
  exact (Cert.Loss.total_eq _ _ _ (hp c) (Cert.Loss.predB m c) (Cert.Loss.maskB m c) (Cert.Loss.predB_at m c) (Cert.Loss.maskB_at m c)).symm

/-- The reference runs, ends with its arguments unchanged, and leaves every semaphore at zero. -/
theorem refFrame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- Every claim of the certificate. -/
theorem claim : Cert.Claim := ⟨Cert.Kernel.Gen.facts, Cert.KernelIdeal.Gen.facts, Cert.ReferenceIdeal.Gen.facts, Cert.Pre_mask_of_bits.Gen.facts,
  fun m ρ _ => Cert.Kernel.Gen.frame m ρ, fun m ρ _ => Cert.KernelIdeal.Gen.frame m ρ, fun m ρ _ => Cert.KernelIdeal.Gen.frame m ρ,
  fun m ρ _ => refFrame m ρ, fun m ρ _ => refFrame m ρ, trivial,
  fun m ρ m' ρ' hp ha => ⟨fun c => Cert.KernelIdeal.Value.G2 m c, Cert.KernelIdeal.Value.run (F := Ideal) m ρ,
    (θ_run Cert.ReferenceIdeal.defs _ _).mono (fun _ h c => ⟨(h c).1.trans (value m m' c hp (ha c).2.1 (ha c).2.2), (h c).2⟩)
      (Cert.ReferenceIdeal.Value.run (F := Ideal) m' ρ')⟩⟩

end Cert.Proof

end
